-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "exit" .f32 0xC2D20000#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)) (v5 : (c : Dev Cert.Kernel2Ideal.nD) → Buf (Elt Ideal) ((c.tc : Thread Cert.Kernel2Ideal.nD Cert.Kernel2Ideal.τ).loc Cert.Kernel2Ideal.main_v23_5)) (v6 : (c : Dev Cert.Kernel2Ideal.nD) → Buf (Elt Ideal) ((c.tc : Thread Cert.Kernel2Ideal.nD Cert.Kernel2Ideal.τ).loc Cert.Kernel2Ideal.main_v23_6)) (v7 : (c : Dev Cert.Kernel2Ideal.nD) → Buf (Elt Ideal) ((c.tc : Thread Cert.Kernel2Ideal.nD Cert.Kernel2Ideal.τ).loc Cert.Kernel2Ideal.main_v23_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_v23_5) = v5 c
          ∧ r.2.mem ((c.tc : Thread Cert.Kernel2Ideal.nD Cert.Kernel2Ideal.τ).loc Cert.Kernel2Ideal.main_v23_6) = v6 c
          ∧ r.2.mem ((c.tc : Thread Cert.Kernel2Ideal.nD Cert.Kernel2Ideal.τ).loc Cert.Kernel2Ideal.main_v23_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v38) = v5 c
          ∧ r.2.mem ((c.tc : Thread Cert.Reference2Ideal.nD Cert.Reference2Ideal.τ).loc Cert.Reference2Ideal.main_v20) = v6 c
          ∧ r.2.mem ((c.tc : Thread Cert.Reference2Ideal.nD Cert.Reference2Ideal.τ).loc Cert.Reference2Ideal.main_v28) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_queries_and_keys.lean ====
abbrev S8x512x8320 : Shape := ⟨3, ![8, 512, 8320]⟩
abbrev S8x8320x512 : Shape := ⟨3, ![8, 8320, 512]⟩
abbrev S512 : Shape := ⟨1, ![512]⟩
abbrev S_ : Shape := ⟨0, ![]⟩

class Facts : Prop where
  bcast_S_S8x512x8320 : S_.BroadcastsInDim S8x512x8320 (![] : Fin 0 → Fin S8x512x8320.rank)
  transposes_S8x8320x512_S8x512x8320_0_2_1 : S8x8320x512.Transposes [0, 2, 1] S8x512x8320

variable [Facts]

def fn {F : FTy → Type} [FloatOps F] (main_arg0 : FVec F S8x512x8320 .bf16) (main_arg1 : FVec F S8x8320x512 .bf16) (main_arg2 : FVec F S8x512x8320 .bf16) (main_arg3 : FVec F S512 .f32) : IVec S8x512x8320 1 :=
  let main_v0 : FVec F S8x512x8320 .bf16 := Host.absf main_arg0
  let main_cst : FVec F S_ .bf16 := constant S_ .bf16 0x7F80#16
  let main_v1 : FVec F S8x512x8320 .bf16 := broadcastInDim S8x512x8320 ![] bcast_S_S8x512x8320 main_cst
  let main_v2 : IVec S8x512x8320 1 := cmpf .olt main_v0 main_v1
  let main_v3 : FVec F S8x512x8320 .bf16 := (transpose S8x512x8320 [0, 2, 1] · transposes_S8x8320x512_S8x512x8320_0_2_1) main_arg1
  let main_v4 : FVec F S8x512x8320 .bf16 := Host.absf main_v3
  let main_cst_0 : FVec F S_ .bf16 := constant S_ .bf16 0x7F80#16
  let main_v5 : FVec F S8x512x8320 .bf16 := broadcastInDim S8x512x8320 ![] bcast_S_S8x512x8320 main_cst_0
  let main_v6 : IVec S8x512x8320 1 := cmpf .olt main_v4 main_v5
  let main_v7 : IVec S8x512x8320 1 := andi main_v2 main_v6
  main_v7
-- ==== Kernel.lean ====
abbrev S8x512x8320 : Shape := ⟨3, ![8, 512, 8320]⟩
abbrev S8x8320x512 : Shape := ⟨3, ![8, 8320, 512]⟩
abbrev S512 : Shape := ⟨1, ![512]⟩
abbrev S136x256 : Shape := ⟨2, ![136, 256]⟩
abbrev S512x1 : Shape := ⟨2, ![512, 1]⟩
abbrev S512x128 : Shape := ⟨2, ![512, 128]⟩
abbrev S1x128x640 : Shape := ⟨3, ![1, 128, 640]⟩
abbrev S1x8320x128 : Shape := ⟨3, ![1, 8320, 128]⟩
abbrev S1x128x8320 : Shape := ⟨3, ![1, 128, 8320]⟩
abbrev S128x128 : Shape := ⟨2, ![128, 128]⟩
abbrev S128x256 : Shape := ⟨2, ![128, 256]⟩
abbrev S1x128x128 : Shape := ⟨3, ![1, 128, 128]⟩
abbrev S1x256 : Shape := ⟨2, ![1, 256]⟩
abbrev S256x256 : Shape := ⟨2, ![256, 256]⟩
abbrev S64x128 : Shape := ⟨2, ![64, 128]⟩
abbrev S1x1x256 : Shape := ⟨3, ![1, 1, 256]⟩
abbrev S1 : Shape := ⟨1, ![1]⟩
abbrev S1x1x1 : Shape := ⟨3, ![1, 1, 1]⟩
abbrev S128 : Shape := ⟨1, ![128]⟩
abbrev S1x128 : Shape := ⟨2, ![1, 128]⟩

abbrev nBuf : Space → Nat
  | .hbm => 8
  | .vmem => 11
  | .smem => 0
  | _ => 0

abbrev bufTy : (tb : Table) → Fin (tcTables nBuf tb) → BufTy
  | .hbm, ⟨0, _⟩ => ⟨S8x512x8320, .bf16⟩
  | .hbm, ⟨1, _⟩ => ⟨S8x8320x512, .bf16⟩
  | .hbm, ⟨2, _⟩ => ⟨S8x512x8320, .bf16⟩
  | .hbm, ⟨3, _⟩ => ⟨S512, .f32⟩
  | .hbm, ⟨4, _⟩ => ⟨S136x256, .bf16⟩
  | .hbm, ⟨5, _⟩ => ⟨S512x1, .f32⟩
  | .hbm, ⟨6, _⟩ => ⟨S512x128, .f32⟩
  | .hbm, ⟨7, _⟩ => ⟨S8x512x8320, .f32⟩
  | .local _ .vmem, ⟨0, _⟩ => ⟨S1x128x640, .bf16⟩
  | .local _ .vmem, ⟨1, _⟩ => ⟨S1x128x640, .bf16⟩
  | .local _ .vmem, ⟨2, _⟩ => ⟨S1x8320x128, .bf16⟩
  | .local _ .vmem, ⟨3, _⟩ => ⟨S1x8320x128, .bf16⟩
  | .local _ .vmem, ⟨4, _⟩ => ⟨S1x128x8320, .bf16⟩
  | .local _ .vmem, ⟨5, _⟩ => ⟨S1x128x8320, .bf16⟩
  | .local _ .vmem, ⟨6, _⟩ => ⟨S136x256, .bf16⟩
  | .local _ .vmem, ⟨7, _⟩ => ⟨S128x128, .f32⟩
  | .local _ .vmem, ⟨8, _⟩ => ⟨S128x128, .f32⟩
  | .local _ .vmem, ⟨9, _⟩ => ⟨S1x128x640, .f32⟩
  | .local _ .vmem, ⟨10, _⟩ => ⟨S1x128x640, .f32⟩
  | _, _ => ⟨S8x512x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 13], ![false, false, false]⟩

def k0_mult1 (i : grid0.Coords) (arg9 : BitVec 32) : BitVec 32 :=
  let arg2 : BitVec 32 := BitVec.ofNat 32 (i 2).val
  let c5_i32_85 : BitVec 32 := 5#32
  let v226 : BitVec 32 := Scalar.muli arg2 c5_i32_85
  let c0_i32_86 : BitVec 32 := 0#32
  let v227 : BitVec 32 := Scalar.addi v226 c0_i32_86
  let v228 : BitVec 32 := Scalar.subi v227 arg9
  let c0_i32_95 : BitVec 32 := 0#32
  let v241 : BitVec 32 := Scalar.maxsi v228 c0_i32_95
  let c128_i32_96 : BitVec 32 := 128#32
  let v242 : BitVec 32 := Scalar.muli v241 c128_i32_96
  v242

def k0_mult2 (i : grid0.Coords) (arg9 : BitVec 32) : BitVec 32 :=
  let arg2 : BitVec 32 := BitVec.ofNat 32 (i 2).val
  let c5_i32_87 : BitVec 32 := 5#32
  let v229 : BitVec 32 := Scalar.muli arg2 c5_i32_87
  let c1_i32_88 : BitVec 32 := 1#32
  let v230 : BitVec 32 := Scalar.addi v229 c1_i32_88
  let v231 : BitVec 32 := Scalar.subi v230 arg9
  let c0_i32_97 : BitVec 32 := 0#32
  let v244 : BitVec 32 := Scalar.maxsi v231 c0_i32_97
  let c128_i32_98 : BitVec 32 := 128#32
  let v245 : BitVec 32 := Scalar.muli v244 c128_i32_98
  v245
def k0_mult3 (i : grid0.Coords) (arg9 : BitVec 32) : BitVec 32 :=
  let arg2 : BitVec 32 := BitVec.ofNat 32 (i 2).val
  let c5_i32_89 : BitVec 32 := 5#32
  let v232 : BitVec 32 := Scalar.muli arg2 c5_i32_89
  let c2_i32_90 : BitVec 32 := 2#32
  let v233 : BitVec 32 := Scalar.addi v232 c2_i32_90
  let v234 : BitVec 32 := Scalar.subi v233 arg9
  let c0_i32_99 : BitVec 32 := 0#32
  let v247 : BitVec 32 := Scalar.maxsi v234 c0_i32_99
  let c128_i32_100 : BitVec 32 := 128#32
  let v248 : BitVec 32 := Scalar.muli v247 c128_i32_100
  v248
def k0_mult4 (i : grid0.Coords) (arg9 : BitVec 32) : BitVec 32 :=
  let arg2 : BitVec 32 := BitVec.ofNat 32 (i 2).val
  let c5_i32_91 : BitVec 32 := 5#32
  let v235 : BitVec 32 := Scalar.muli arg2 c5_i32_91
  let c3_i32_92 : BitVec 32 := 3#32
  let v236 : BitVec 32 := Scalar.addi v235 c3_i32_92
  let v237 : BitVec 32 := Scalar.subi v236 arg9
  let c0_i32_101 : BitVec 32 := 0#32
  let v250 : BitVec 32 := Scalar.maxsi v237 c0_i32_101
  let c128_i32_102 : BitVec 32 := 128#32
  let v251 : BitVec 32 := Scalar.muli v250 c128_i32_102
  v251
def k0_mult5 (i : grid0.Coords) (arg9 : BitVec 32) : BitVec 32 :=
  let arg2 : BitVec 32 := BitVec.ofNat 32 (i 2).val
  let c5_i32_93 : BitVec 32 := 5#32
  let v238 : BitVec 32 := Scalar.muli arg2 c5_i32_93
  let c4_i32_94 : BitVec 32 := 4#32
  let v239 : BitVec 32 := Scalar.addi v238 c4_i32_94
  let v240 : BitVec 32 := Scalar.subi v239 arg9
  let c0_i32_103 : BitVec 32 := 0#32
  let v253 : BitVec 32 := Scalar.maxsi v240 c0_i32_103
  let c128_i32_104 : BitVec 32 := 128#32
  let v254 : BitVec 32 := Scalar.muli v253 c128_i32_104
  v254
def k0_off1 (i : grid0.Coords) (arg9 : BitVec 32) (c0_i32_86 : BitVec 32) : Fin 3 → Nat :=
  let c0_105 : Index := 0#32
  let arg2 : BitVec 32 := BitVec.ofNat 32 (i 2).val
  let c5_i32_85 : BitVec 32 := 5#32
  let v226 : BitVec 32 := Scalar.muli arg2 c5_i32_85
  let v227 : BitVec 32 := Scalar.addi v226 c0_i32_86
  let v228 : BitVec 32 := Scalar.subi v227 arg9
  let c0_i32_95 : BitVec 32 := 0#32
  let v241 : BitVec 32 := Scalar.maxsi v228 c0_i32_95
  let c128_i32_96 : BitVec 32 := 128#32
  let v242 : BitVec 32 := Scalar.muli v241 c128_i32_96
  let v243 : BitVec 32 := v242
  let v256 : Index := Scalar.indexCast v243
  let c0_106 : Index := 0#32
  ![0, v256.toNat, 0]
def k0_off2 (i : grid0.Coords) (arg9 : BitVec 32) (c0_i32_86 : BitVec 32) : Fin 3 → Nat :=
  let c0_179 : Index := 0#32
  let c0_180 : Index := 0#32
  let arg2 : BitVec 32 := BitVec.ofNat 32 (i 2).val
  let c5_i32_85 : BitVec 32 := 5#32
  let v226 : BitVec 32 := Scalar.muli arg2 c5_i32_85
  let v227 : BitVec 32 := Scalar.addi v226 c0_i32_86
  let v228 : BitVec 32 := Scalar.subi v227 arg9
  let c0_i32_95 : BitVec 32 := 0#32
  let v241 : BitVec 32 := Scalar.maxsi v228 c0_i32_95
  let c128_i32_96 : BitVec 32 := 128#32
  let v242 : BitVec 32 := Scalar.muli v241 c128_i32_96
  let v243 : BitVec 32 := v242
  let v491 : Index := Scalar.indexCast v243
  ![0, 0, v491.toNat]

def k0_chk1 (i : grid0.Coords) (arg9 : BitVec 32) : Prop :=
  (128 ∣ (k0_mult1 i arg9).toNat) ∧
  (128 ∣ (k0_mult2 i arg9).toNat) ∧
  (128 ∣ (k0_mult3 i arg9).toNat) ∧
  (128 ∣ (k0_mult4 i arg9).toNat) ∧
  (128 ∣ (k0_mult5 i arg9).toNat) ∧
  (∀ (r : Fin 5), ∀ a, (k0_off1 i arg9 (BitVec.ofNat 32 r.val)) a + S1x128x128.size a ≤ S1x8320x128.size a) ∧
  (∀ (r : Fin 5), ∀ a, (k0_off2 i arg9 (BitVec.ofNat 32 r.val)) a + S1x128x128.size a ≤ S1x128x8320.size a)
theorem k0_mult1_dvd : ∀ (i : grid0.Coords) (arg9 : BitVec 32) (k0_hw1 : k0_chk1 i arg9), 128 ∣ (k0_mult1 i arg9).toNat := fun i arg9 k0_hw1 => k0_hw1.1
theorem k0_mult2_dvd : ∀ (i : grid0.Coords) (arg9 : BitVec 32) (k0_hw1 : k0_chk1 i arg9), 128 ∣ (k0_mult2 i arg9).toNat := fun i arg9 k0_hw1 => k0_hw1.2.1
theorem k0_mult3_dvd : ∀ (i : grid0.Coords) (arg9 : BitVec 32) (k0_hw1 : k0_chk1 i arg9), 128 ∣ (k0_mult3 i arg9).toNat := fun i arg9 k0_hw1 => k0_hw1.2.2.1
theorem k0_mult4_dvd : ∀ (i : grid0.Coords) (arg9 : BitVec 32) (k0_hw1 : k0_chk1 i arg9), 128 ∣ (k0_mult4 i arg9).toNat := fun i arg9 k0_hw1 => k0_hw1.2.2.2.1
theorem k0_mult5_dvd : ∀ (i : grid0.Coords) (arg9 : BitVec 32) (k0_hw1 : k0_chk1 i arg9), 128 ∣ (k0_mult5 i arg9).toNat := fun i arg9 k0_hw1 => k0_hw1.2.2.2.2.1
theorem k0_off1_inb : ∀ (i : grid0.Coords) (arg9 : BitVec 32) (k0_hw1 : k0_chk1 i arg9), ∀ (r : Fin 5), ∀ a, (k0_off1 i arg9 (BitVec.ofNat 32 r.val)) a + S1x128x128.size a ≤ S1x8320x128.size a := fun i arg9 k0_hw1 r => k0_hw1.2.2.2.2.2.1 r
theorem k0_off2_inb : ∀ (i : grid0.Coords) (arg9 : BitVec 32) (k0_hw1 : k0_chk1 i arg9), ∀ (r : Fin 5), ∀ a, (k0_off2 i arg9 (BitVec.ofNat 32 r.val)) a + S1x128x128.size a ≤ S1x128x8320.size a := fun i arg9 k0_hw1 r => k0_hw1.2.2.2.2.2.2 r

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8320x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8320 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S136x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "exit" => some ⊥
  | _ => none
-- ==== ReferenceIdeal.lean ====
abbrev S8x512x8320 : Shape := ⟨3, ![8, 512, 8320]⟩
abbrev S8x8320x512 : Shape := ⟨3, ![8, 8320, 512]⟩
abbrev S512 : Shape := ⟨1, ![512]⟩
abbrev S8x512x8208 : Shape := ⟨3, ![8, 512, 8208]⟩
abbrev S8x8x64x8208 : Shape := ⟨4, ![8, 8, 64, 8208]⟩
abbrev S8x8208x512 : Shape := ⟨3, ![8, 8208, 512]⟩
abbrev S8x8208x8x64 : Shape := ⟨4, ![8, 8208, 8, 64]⟩
abbrev S8x8x8208x8208 : Shape := ⟨4, ![8, 8, 8208, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S_ : Shape := ⟨0, ![]⟩
abbrev S8x64x1 : Shape := ⟨3, ![8, 64, 1]⟩
abbrev S8x8x8208 : Shape := ⟨3, ![8, 8, 8208]⟩
abbrev S8x8x1x8208 : Shape := ⟨4, ![8, 8, 1, 8208]⟩
abbrev S1x8x64x1 : Shape := ⟨4, ![1, 8, 64, 1]⟩

abbrev nBuf : Space → Nat
  | .hbm => 92
  | .vmem => 0
  | .smem => 0
  | _ => 0

abbrev bufTy : (tb : Table) → Fin (tcTables nBuf tb) → BufTy
  | .hbm, ⟨0, _⟩ => ⟨S8x512x8320, .bf16⟩
  | .hbm, ⟨1, _⟩ => ⟨S8x8320x512, .bf16⟩
  | .hbm, ⟨2, _⟩ => ⟨S8x512x8320, .bf16⟩
  | .hbm, ⟨3, _⟩ => ⟨S512, .f32⟩
  | .hbm, ⟨4, _⟩ => ⟨S8x512x8208, .bf16⟩
  | .hbm, ⟨5, _⟩ => ⟨S8x512x8208, .f32⟩
  | .hbm, ⟨6, _⟩ => ⟨S8x8x64x8208, .f32⟩
  | .hbm, ⟨7, _⟩ => ⟨S8x8208x512, .bf16⟩
  | .hbm, ⟨8, _⟩ => ⟨S8x8208x512, .f32⟩
  | .hbm, ⟨9, _⟩ => ⟨S8x8208x8x64, .f32⟩
  | .hbm, ⟨10, _⟩ => ⟨S8x512x8208, .bf16⟩
  | .hbm, ⟨11, _⟩ => ⟨S8x512x8208, .f32⟩
  | .hbm, ⟨12, _⟩ => ⟨S8x8x64x8208, .f32⟩
  | .hbm, ⟨13, _⟩ => ⟨S8x8x8208x8208, .f32⟩
  | .hbm, ⟨14, _⟩ => ⟨S8208, .i32⟩
  | .hbm, ⟨15, _⟩ => ⟨S1x8208, .i32⟩
  | .hbm, ⟨16, _⟩ => ⟨S8208, .i32⟩
  | .hbm, ⟨17, _⟩ => ⟨S8208x1, .i32⟩
  | .hbm, ⟨18, _⟩ => ⟨S8208x8208, .i32⟩
  | .hbm, ⟨19, _⟩ => ⟨S8208x8208, .i32⟩
  | .hbm, ⟨20, _⟩ => ⟨S8208x8208, .i1⟩
  | .hbm, ⟨21, _⟩ => ⟨S8x8x8208x8208, .f32⟩
  | .hbm, ⟨22, _⟩ => ⟨S8x8x8208x8208, .f32⟩
  | .hbm, ⟨23, _⟩ => ⟨S_, .f32⟩
  | .hbm, ⟨24, _⟩ => ⟨S8x8x8208x8208, .f32⟩
  | .hbm, ⟨25, _⟩ => ⟨S8x8x8208x8208, .f32⟩
  | .hbm, ⟨26, _⟩ => ⟨S8x8x8208x8208, .f32⟩
  | .hbm, ⟨27, _⟩ => ⟨S8x8x8208x8208, .f32⟩
  | .hbm, ⟨28, _⟩ => ⟨S8x8x8208x8208, .i1⟩
  | .hbm, ⟨29, _⟩ => ⟨S8x8x8208x8208, .f32⟩
  | .hbm, ⟨30, _⟩ => ⟨S8x8x8208x8208, .f32⟩
  | .hbm, ⟨31, _⟩ => ⟨S8x8x8208x8208, .f32⟩
  | .hbm, ⟨32, _⟩ => ⟨S8x8x8208x8208, .f32⟩
  | .hbm, ⟨33, _⟩ => ⟨S8x8x8208x8208, .f32⟩
  | .hbm, ⟨34, _⟩ => ⟨S8x8x8208x8208, .f32⟩
  | .hbm, ⟨35, _⟩ => ⟨S8x8x8208x8208, .f32⟩
  | .hbm, ⟨36, _⟩ => ⟨S8x8x8208x8208, .f32⟩
  | .hbm, ⟨37, _⟩ => ⟨S8x8x8208x8208, .f32⟩
  | .hbm, ⟨38, _⟩ => ⟨S_, .f32⟩
  | .hbm, ⟨39, _⟩ => ⟨S_, .f32⟩
  | .hbm, ⟨40, _⟩ => ⟨S8x8x8208x8208, .i1⟩
  | .hbm, ⟨41, _⟩ => ⟨S8x8x8208x8208, .f32⟩
  | .hbm, ⟨42, _⟩ => ⟨S8x8x8208x8208, .f32⟩
  | .hbm, ⟨43, _⟩ => ⟨S_, .f32⟩
  | .hbm, ⟨44, _⟩ => ⟨S_, .f32⟩
  | .hbm, ⟨45, _⟩ => ⟨S8x8x8208x8208, .f32⟩
  | .hbm, ⟨46, _⟩ => ⟨S8x8x8208x8208, .f32⟩
  | .hbm, ⟨47, _⟩ => ⟨S8x8x8208x8208, .f32⟩
  | .hbm, ⟨48, _⟩ => ⟨S_, .f32⟩
  | .hbm, ⟨49, _⟩ => ⟨S8x8x8208x8208, .f32⟩
  | .hbm, ⟨50, _⟩ => ⟨S8x8x8208x8208, .f32⟩
  | .hbm, ⟨51, _⟩ => ⟨S8x8x8208x8208, .f32⟩
  | .hbm, ⟨52, _⟩ => ⟨S8x8x8208x8208, .f32⟩
  | .hbm, ⟨53, _⟩ => ⟨S8x8x8208x8208, .i1⟩
  | .hbm, ⟨54, _⟩ => ⟨S8x8x8208x8208, .f32⟩
  | .hbm, ⟨55, _⟩ => ⟨S8x8x8208x8208, .f32⟩
  | .hbm, ⟨56, _⟩ => ⟨S8x8x8208x8208, .f32⟩
  | .hbm, ⟨57, _⟩ => ⟨S8x8x8208x8208, .f32⟩
  | .hbm, ⟨58, _⟩ => ⟨S8x8x8208x8208, .f32⟩
  | .hbm, ⟨59, _⟩ => ⟨S8x8x8208x8208, .f32⟩
  | .hbm, ⟨60, _⟩ => ⟨S8x8x8208x8208, .f32⟩
  | .hbm, ⟨61, _⟩ => ⟨S8x8x8208x8208, .f32⟩
  | .hbm, ⟨62, _⟩ => ⟨S8x8x8208x8208, .f32⟩
  | .hbm, ⟨63, _⟩ => ⟨S8x8x8208x8208, .f32⟩
  | .hbm, ⟨64, _⟩ => ⟨S8x8x8208x8208, .f32⟩
  | .hbm, ⟨65, _⟩ => ⟨S_, .f32⟩
  | .hbm, ⟨66, _⟩ => ⟨S_, .f32⟩
  | .hbm, ⟨67, _⟩ => ⟨S8x8x8208x8208, .i1⟩
  | .hbm, ⟨68, _⟩ => ⟨S8x8x8208x8208, .f32⟩
  | .hbm, ⟨69, _⟩ => ⟨S8x8x8208x8208, .f32⟩
  | .hbm, ⟨70, _⟩ => ⟨S8x8x64x8208, .f32⟩
  | .hbm, ⟨71, _⟩ => ⟨S8x64x1, .f32⟩
  | .hbm, ⟨72, _⟩ => ⟨S8x8x64x8208, .f32⟩
  | .hbm, ⟨73, _⟩ => ⟨S_, .f32⟩
  | .hbm, ⟨74, _⟩ => ⟨S8x8x8208, .f32⟩
  | .hbm, ⟨75, _⟩ => ⟨S8x8x1x8208, .f32⟩
  | .hbm, ⟨76, _⟩ => ⟨S_, .f32⟩
  | .hbm, ⟨77, _⟩ => ⟨S8x8x1x8208, .f32⟩
  | .hbm, ⟨78, _⟩ => ⟨S8x8x1x8208, .f32⟩
  | .hbm, ⟨79, _⟩ => ⟨S_, .f32⟩
  | .hbm, ⟨80, _⟩ => ⟨S8x8x1x8208, .f32⟩
  | .hbm, ⟨81, _⟩ => ⟨S8x8x1x8208, .f32⟩
  | .hbm, ⟨82, _⟩ => ⟨S8x8x1x8208, .f32⟩
  | .hbm, ⟨83, _⟩ => ⟨S8x8x64x8208, .f32⟩
  | .hbm, ⟨84, _⟩ => ⟨S8x8x64x8208, .f32⟩
  | .hbm, ⟨85, _⟩ => ⟨S1x8x64x1, .f32⟩
  | .hbm, ⟨86, _⟩ => ⟨S8x8x64x8208, .f32⟩
  | .hbm, ⟨87, _⟩ => ⟨S8x8x64x8208, .f32⟩
  | .hbm, ⟨88, _⟩ => ⟨S8x512x8208, .f32⟩
  | .hbm, ⟨89, _⟩ => ⟨S_, .i32⟩
  | .hbm, ⟨90, _⟩ => ⟨S_, .f32⟩
  | .hbm, ⟨91, _⟩ => ⟨S8x512x8320, .f32⟩
  | _, _ => ⟨S8x512x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_call2_cst : Ref sig .tc := ⟨.hbm, 43, rfl⟩
abbrev main_call2_v0 : Ref sig .tc := ⟨.hbm, 44, rfl⟩
abbrev main_v20 : Ref sig .tc := ⟨.hbm, 45, rfl⟩
abbrev main_v21 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_0 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_1 : Ref sig .tc := ⟨.hbm, 73, rfl⟩
abbrev main_v29 : Ref sig .tc := ⟨.hbm, 74, rfl⟩
abbrev main_v30 : Ref sig .tc := ⟨.hbm, 75, rfl⟩
abbrev main_cst_2 : Ref sig .tc := ⟨.hbm, 76, rfl⟩
abbrev main_v31 : Ref sig .tc := ⟨.hbm, 77, rfl⟩
abbrev main_v32 : Ref sig .tc := ⟨.hbm, 78, rfl⟩
abbrev main_cst_3 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c : Ref sig .tc := ⟨.hbm, 89, rfl⟩
abbrev main_call5_v0 : Ref sig .tc := ⟨.hbm, 90, rfl⟩
abbrev main_v42 : Ref sig .tc := ⟨.hbm, 91, rfl⟩

abbrev nD : Nat := 1
abbrev τ : Topo := Topo.v7x

variable {F : FTy → Type} [FloatOps F]
-- ==== Kernel2.lean ====
abbrev S8x8320x1024 : Shape := ⟨3, ![8, 8320, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S1024x512 : Shape := ⟨2, ![1024, 512]⟩
abbrev S_ : Shape := ⟨0, ![]⟩
abbrev S512x1024 : Shape := ⟨2, ![512, 1024]⟩
abbrev S1024x256 : Shape := ⟨2, ![1024, 256]⟩
abbrev S1024x1280 : Shape := ⟨2, ![1024, 1280]⟩
abbrev S1024x1536 : Shape := ⟨2, ![1024, 1536]⟩
abbrev S1024x16 : Shape := ⟨2, ![1024, 16]⟩
abbrev S1024x128 : Shape := ⟨2, ![1024, 128]⟩
abbrev S128x256 : Shape := ⟨2, ![128, 256]⟩
abbrev S1x256 : Shape := ⟨2, ![1, 256]⟩
abbrev S1x1024 : Shape := ⟨2, ![1, 1024]⟩
abbrev S8x512x8320 : Shape := ⟨3, ![8, 512, 8320]⟩
abbrev S8x8320x512 : Shape := ⟨3, ![8, 8320, 512]⟩
abbrev S8x8320x256 : Shape := ⟨3, ![8, 8320, 256]⟩
abbrev S1x640x1024 : Shape := ⟨3, ![1, 640, 1024]⟩
abbrev S1x512x640 : Shape := ⟨3, ![1, 512, 640]⟩
abbrev S1x640x512 : Shape := ⟨3, ![1, 640, 512]⟩
abbrev S1x640x256 : Shape := ⟨3, ![1, 640, 256]⟩
abbrev S640x1024 : Shape := ⟨2, ![640, 1024]⟩
abbrev S640 : Shape := ⟨1, ![640]⟩
abbrev S640x1 : Shape := ⟨2, ![640, 1]⟩
abbrev S512x640 : Shape := ⟨2, ![512, 640]⟩
abbrev S640x512 : Shape := ⟨2, ![640, 512]⟩
abbrev S640x1536 : Shape := ⟨2, ![640, 1536]⟩
abbrev S640x256 : Shape := ⟨2, ![640, 256]⟩
abbrev S640x128 : Shape := ⟨2, ![640, 128]⟩

abbrev nBuf : Space → Nat
  | .hbm => 42
  | .vmem => 26
  | .smem => 0
  | _ => 0

abbrev bufTy : (tb : Table) → Fin (tcTables nBuf tb) → BufTy
  | .hbm, ⟨0, _⟩ => ⟨S8x8320x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S512x1024, .f32⟩
  | .hbm, ⟨15, _⟩ => ⟨S512x1024, .bf16⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x1280, .f32⟩
  | .hbm, ⟨21, _⟩ => ⟨S1024x1536, .f32⟩
  | .hbm, ⟨22, _⟩ => ⟨S1024x1536, .bf16⟩
  | .hbm, ⟨23, _⟩ => ⟨S1024x16, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x128, .bf16⟩
  | .hbm, ⟨28, _⟩ => ⟨S_, .i32⟩
  | .hbm, ⟨29, _⟩ => ⟨S_, .f32⟩
  | .hbm, ⟨30, _⟩ => ⟨S128x256, .f32⟩
  | .hbm, ⟨31, _⟩ => ⟨S128x256, .bf16⟩
  | .hbm, ⟨32, _⟩ => ⟨S1x256, .f32⟩
  | .hbm, ⟨33, _⟩ => ⟨S1x1024, .f32⟩
  | .hbm, ⟨34, _⟩ => ⟨S8x512x8320, .bf16⟩
  | .hbm, ⟨35, _⟩ => ⟨S8x8320x512, .bf16⟩
  | .hbm, ⟨36, _⟩ => ⟨S8x512x8320, .bf16⟩
  | .hbm, ⟨37, _⟩ => ⟨S8x8320x256, .f32⟩
  | .hbm, ⟨38, _⟩ => ⟨S8x8320x256, .f32⟩
  | .hbm, ⟨39, _⟩ => ⟨S8x8320x512, .bf16⟩
  | .hbm, ⟨40, _⟩ => ⟨S8x8320x512, .f32⟩
  | .hbm, ⟨41, _⟩ => ⟨S8x8320x256, .f32⟩
  | .local _ .vmem, ⟨0, _⟩ => ⟨S1x640x1024, .f32⟩
  | .local _ .vmem, ⟨1, _⟩ => ⟨S1x640x1024, .f32⟩
  | .local _ .vmem, ⟨2, _⟩ => ⟨S1x1024, .f32⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x1536, .bf16⟩
  | .local _ .vmem, ⟨7, _⟩ => ⟨S1024x128, .bf16⟩
  | .local _ .vmem, ⟨8, _⟩ => ⟨S128x256, .bf16⟩
  | .local _ .vmem, ⟨9, _⟩ => ⟨S1x256, .f32⟩
  | .local _ .vmem, ⟨10, _⟩ => ⟨S1x512x640, .bf16⟩
  | .local _ .vmem, ⟨11, _⟩ => ⟨S1x512x640, .bf16⟩
  | .local _ .vmem, ⟨12, _⟩ => ⟨S1x640x512, .bf16⟩
  | .local _ .vmem, ⟨13, _⟩ => ⟨S1x640x512, .bf16⟩
  | .local _ .vmem, ⟨14, _⟩ => ⟨S1x512x640, .bf16⟩
  | .local _ .vmem, ⟨15, _⟩ => ⟨S1x512x640, .bf16⟩
  | .local _ .vmem, ⟨16, _⟩ => ⟨S1x640x256, .f32⟩
  | .local _ .vmem, ⟨17, _⟩ => ⟨S1x640x256, .f32⟩
  | .local _ .vmem, ⟨18, _⟩ => ⟨S1x640x256, .f32⟩
  | .local _ .vmem, ⟨19, _⟩ => ⟨S1x640x256, .f32⟩
  | .local _ .vmem, ⟨20, _⟩ => ⟨S1x640x512, .bf16⟩
  | .local _ .vmem, ⟨21, _⟩ => ⟨S1x640x512, .bf16⟩
  | .local _ .vmem, ⟨22, _⟩ => ⟨S1x640x512, .f32⟩
  | .local _ .vmem, ⟨23, _⟩ => ⟨S1x640x512, .f32⟩
  | .local _ .vmem, ⟨24, _⟩ => ⟨S1x640x256, .f32⟩
  | .local _ .vmem, ⟨25, _⟩ => ⟨S1x640x256, .f32⟩
  | _, _ => ⟨S8x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call1_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev main_v23_5 : Ref sig .tc := ⟨.hbm, 39, rfl⟩
abbrev main_v23_6 : Ref sig .tc := ⟨.hbm, 40, rfl⟩
abbrev main_v23_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x640x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x640x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x640x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x640x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x640x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8x8320x1024 : Shape := ⟨3, ![8, 8320, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S_ : Shape := ⟨0, ![]⟩
abbrev S8x8320 : Shape := ⟨2, ![8, 8320]⟩
abbrev S8x8320x1 : Shape := ⟨3, ![8, 8320, 1]⟩
abbrev S1x1x1024 : Shape := ⟨3, ![1, 1, 1024]⟩
abbrev S8x8320x3088 : Shape := ⟨3, ![8, 8320, 3088]⟩
abbrev S8x8320x512 : Shape := ⟨3, ![8, 8320, 512]⟩
abbrev S8x8320x256 : Shape := ⟨3, ![8, 8320, 256]⟩
abbrev S8x8320x16 : Shape := ⟨3, ![8, 8320, 16]⟩
abbrev S1x1x256 : Shape := ⟨3, ![1, 1, 256]⟩
abbrev S8x512x8320 : Shape := ⟨3, ![8, 512, 8320]⟩

abbrev nBuf : Space → Nat
  | .hbm => 65
  | .vmem => 0
  | .smem => 0
  | _ => 0

abbrev bufTy : (tb : Table) → Fin (tcTables nBuf tb) → BufTy
  | .hbm, ⟨0, _⟩ => ⟨S8x8320x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S8x8320x1024, .f32⟩
  | .hbm, ⟨6, _⟩ => ⟨S_, .f32⟩
  | .hbm, ⟨7, _⟩ => ⟨S8x8320, .f32⟩
  | .hbm, ⟨8, _⟩ => ⟨S8x8320x1, .f32⟩
  | .hbm, ⟨9, _⟩ => ⟨S_, .f32⟩
  | .hbm, ⟨10, _⟩ => ⟨S8x8320x1, .f32⟩
  | .hbm, ⟨11, _⟩ => ⟨S8x8320x1, .f32⟩
  | .hbm, ⟨12, _⟩ => ⟨S_, .f32⟩
  | .hbm, ⟨13, _⟩ => ⟨S8x8320x1, .f32⟩
  | .hbm, ⟨14, _⟩ => ⟨S8x8320x1, .f32⟩
  | .hbm, ⟨15, _⟩ => ⟨S8x8320x1, .f32⟩
  | .hbm, ⟨16, _⟩ => ⟨S8x8320x1024, .f32⟩
  | .hbm, ⟨17, _⟩ => ⟨S8x8320x1024, .f32⟩
  | .hbm, ⟨18, _⟩ => ⟨S1x1x1024, .f32⟩
  | .hbm, ⟨19, _⟩ => ⟨S8x8320x1024, .f32⟩
  | .hbm, ⟨20, _⟩ => ⟨S8x8320x1024, .f32⟩
  | .hbm, ⟨21, _⟩ => ⟨S8x8320x3088, .f32⟩
  | .hbm, ⟨22, _⟩ => ⟨S8x8320x512, .f32⟩
  | .hbm, ⟨23, _⟩ => ⟨S8x8320x512, .f32⟩
  | .hbm, ⟨24, _⟩ => ⟨S8x8320x512, .f32⟩
  | .hbm, ⟨25, _⟩ => ⟨S8x8320x256, .f32⟩
  | .hbm, ⟨26, _⟩ => ⟨S8x8320x256, .f32⟩
  | .hbm, ⟨27, _⟩ => ⟨S8x8320x512, .f32⟩
  | .hbm, ⟨28, _⟩ => ⟨S8x8320x512, .f32⟩
  | .hbm, ⟨29, _⟩ => ⟨S8x8320x16, .f32⟩
  | .hbm, ⟨30, _⟩ => ⟨S8x8320x256, .f32⟩
  | .hbm, ⟨31, _⟩ => ⟨S1x1x256, .f32⟩
  | .hbm, ⟨32, _⟩ => ⟨S8x8320x256, .f32⟩
  | .hbm, ⟨33, _⟩ => ⟨S8x8320x256, .f32⟩
  | .hbm, ⟨34, _⟩ => ⟨S8x8320x256, .f32⟩
  | .hbm, ⟨35, _⟩ => ⟨S_, .f32⟩
  | .hbm, ⟨36, _⟩ => ⟨S8x8320x256, .f32⟩
  | .hbm, ⟨37, _⟩ => ⟨S8x8320x256, .f32⟩
  | .hbm, ⟨38, _⟩ => ⟨S8x8320x256, .f32⟩
  | .hbm, ⟨39, _⟩ => ⟨S8x8320x256, .f32⟩
  | .hbm, ⟨40, _⟩ => ⟨S8x8320x256, .i1⟩
  | .hbm, ⟨41, _⟩ => ⟨S8x8320x256, .f32⟩
  | .hbm, ⟨42, _⟩ => ⟨S8x8320x256, .f32⟩
  | .hbm, ⟨43, _⟩ => ⟨S8x8320x256, .f32⟩
  | .hbm, ⟨44, _⟩ => ⟨S8x8320x256, .f32⟩
  | .hbm, ⟨45, _⟩ => ⟨S8x8320x256, .f32⟩
  | .hbm, ⟨46, _⟩ => ⟨S8x8320x256, .f32⟩
  | .hbm, ⟨47, _⟩ => ⟨S8x8320x256, .f32⟩
  | .hbm, ⟨48, _⟩ => ⟨S8x8320x256, .f32⟩
  | .hbm, ⟨49, _⟩ => ⟨S8x8320x256, .f32⟩
  | .hbm, ⟨50, _⟩ => ⟨S_, .f32⟩
  | .hbm, ⟨51, _⟩ => ⟨S8x8320x256, .f32⟩
  | .hbm, ⟨52, _⟩ => ⟨S8x8320x256, .f32⟩
  | .hbm, ⟨53, _⟩ => ⟨S_, .f32⟩
  | .hbm, ⟨54, _⟩ => ⟨S8x8320x512, .f32⟩
  | .hbm, ⟨55, _⟩ => ⟨S8x8320x512, .f32⟩
  | .hbm, ⟨56, _⟩ => ⟨S8x512x8320, .f32⟩
  | .hbm, ⟨57, _⟩ => ⟨S8x512x8320, .bf16⟩
  | .hbm, ⟨58, _⟩ => ⟨S8x8320x512, .bf16⟩
  | .hbm, ⟨59, _⟩ => ⟨S8x512x8320, .f32⟩
  | .hbm, ⟨60, _⟩ => ⟨S8x512x8320, .bf16⟩
  | .hbm, ⟨61, _⟩ => ⟨S_, .f32⟩
  | .hbm, ⟨62, _⟩ => ⟨S8x8320x256, .f32⟩
  | .hbm, ⟨63, _⟩ => ⟨S8x8320x256, .f32⟩
  | .hbm, ⟨64, _⟩ => ⟨S8x8320x512, .bf16⟩
  | _, _ => ⟨S8x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩

abbrev nD : Nat := 1
abbrev τ : Topo := Topo.v7x

variable {F : FTy → Type} [FloatOps F]
-- ==== Kernel3.lean ====
abbrev S8x512x8320 : Shape := ⟨3, ![8, 512, 8320]⟩
abbrev S8x8320x512 : Shape := ⟨3, ![8, 8320, 512]⟩
abbrev S8x8320x1024 : Shape := ⟨3, ![8, 8320, 1024]⟩
abbrev S1024x1024 : Shape := ⟨2, ![1024, 1024]⟩
abbrev S1024 : Shape := ⟨1, ![1024]⟩
abbrev S1x1024 : Shape := ⟨2, ![1, 1024]⟩
abbrev S1x512x640 : Shape := ⟨3, ![1, 512, 640]⟩
abbrev S1x640x512 : Shape := ⟨3, ![1, 640, 512]⟩
abbrev S1x640x1024 : Shape := ⟨3, ![1, 640, 1024]⟩
abbrev S512x640 : Shape := ⟨2, ![512, 640]⟩
abbrev S640x512 : Shape := ⟨2, ![640, 512]⟩
abbrev S512x1024 : Shape := ⟨2, ![512, 1024]⟩
abbrev S640x1024 : Shape := ⟨2, ![640, 1024]⟩
abbrev S640 : Shape := ⟨1, ![640]⟩
abbrev S640x1 : Shape := ⟨2, ![640, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x512x8320, .f32⟩
  | .hbm, ⟨1, _⟩ => ⟨S8x8320x512, .bf16⟩
  | .hbm, ⟨2, _⟩ => ⟨S8x8320x1024, .f32⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S8x8320x1024, .f32⟩
  | .hbm, ⟨8, _⟩ => ⟨S8x8320x1024, .f32⟩
  | .local _ .vmem, ⟨0, _⟩ => ⟨S1x512x640, .f32⟩
  | .local _ .vmem, ⟨1, _⟩ => ⟨S1x512x640, .f32⟩
  | .local _ .vmem, ⟨2, _⟩ => ⟨S1x640x512, .bf16⟩
  | .local _ .vmem, ⟨3, _⟩ => ⟨S1x640x512, .bf16⟩
  | .local _ .vmem, ⟨4, _⟩ => ⟨S1x640x1024, .f32⟩
  | .local _ .vmem, ⟨5, _⟩ => ⟨S1x640x1024, .f32⟩
  | .local _ .vmem, ⟨6, _⟩ => ⟨S1024x1024, .bf16⟩
  | .local _ .vmem, ⟨7, _⟩ => ⟨S1x1024, .f32⟩
  | .local _ .vmem, ⟨8, _⟩ => ⟨S1x640x1024, .f32⟩
  | .local _ .vmem, ⟨9, _⟩ => ⟨S1x640x1024, .f32⟩
  | .local _ .vmem, ⟨10, _⟩ => ⟨S1x640x1024, .f32⟩
  | .local _ .vmem, ⟨11, _⟩ => ⟨S1x640x1024, .f32⟩
  | _, _ => ⟨S8x512x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x512x8320 : Shape := ⟨3, ![8, 512, 8320]⟩
abbrev S8x8320x512 : Shape := ⟨3, ![8, 8320, 512]⟩
abbrev S8x8320x1024 : Shape := ⟨3, ![8, 8320, 1024]⟩
abbrev S1024x1024 : Shape := ⟨2, ![1024, 1024]⟩
abbrev S1024 : Shape := ⟨1, ![1024]⟩
abbrev S_ : Shape := ⟨0, ![]⟩
abbrev S8x8320 : Shape := ⟨2, ![8, 8320]⟩
abbrev S8x8320x1 : Shape := ⟨3, ![8, 8320, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x512x8320, .f32⟩
  | .hbm, ⟨1, _⟩ => ⟨S8x8320x512, .bf16⟩
  | .hbm, ⟨2, _⟩ => ⟨S8x8320x1024, .f32⟩
  | .hbm, ⟨3, _⟩ => ⟨S1024x1024, .f32⟩
  | .hbm, ⟨4, _⟩ => ⟨S1024, .f32⟩
  | .hbm, ⟨5, _⟩ => ⟨S8x8320x512, .f32⟩
  | .hbm, ⟨6, _⟩ => ⟨S8x8320x512, .f32⟩
  | .hbm, ⟨7, _⟩ => ⟨S8x8320x1024, .f32⟩
  | .hbm, ⟨8, _⟩ => ⟨S8x8320x1024, .f32⟩
  | .hbm, ⟨9, _⟩ => ⟨S8x8320x1024, .f32⟩
  | .hbm, ⟨10, _⟩ => ⟨S8x8320x1024, .f32⟩
  | .hbm, ⟨11, _⟩ => ⟨S_, .f32⟩
  | .hbm, ⟨12, _⟩ => ⟨S8x8320, .f32⟩
  | .hbm, ⟨13, _⟩ => ⟨S8x8320x1, .f32⟩
  | .hbm, ⟨14, _⟩ => ⟨S_, .f32⟩
  | .hbm, ⟨15, _⟩ => ⟨S8x8320x1, .f32⟩
  | .hbm, ⟨16, _⟩ => ⟨S8x8320x1, .f32⟩
  | .hbm, ⟨17, _⟩ => ⟨S_, .f32⟩
  | .hbm, ⟨18, _⟩ => ⟨S8x8320x1, .f32⟩
  | .hbm, ⟨19, _⟩ => ⟨S8x8320x1, .f32⟩
  | .hbm, ⟨20, _⟩ => ⟨S8x8320x1, .f32⟩
  | .hbm, ⟨21, _⟩ => ⟨S8x8320x1024, .f32⟩
  | .hbm, ⟨22, _⟩ => ⟨S8x8320x1024, .f32⟩
  | .hbm, ⟨23, _⟩ => ⟨S1x1x1024, .f32⟩
  | .hbm, ⟨24, _⟩ => ⟨S8x8320x1024, .f32⟩
  | .hbm, ⟨25, _⟩ => ⟨S8x8320x1024, .f32⟩
  | _, _ => ⟨S8x512x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.KI.Setup.lean ====
/-
  The launch of the one pipeline: the program up to it, the windows' blocks as it finds them, and the frame read off
  a run of it. The same for any body; written out here because the body runs a loop.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Launch

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No window stages the argument `main_arg3` itself. -/
theorem arg3_unstaged : ∀ w : Fin 6, (spec0 w).arr.view.ref ≠ main_arg3 := by decide

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) arg3_unstaged)).trans (V_main_arg3 m c)⟩) h

/-! ## The kernel body on any staging memrefs: a subtype the run finds -/

/-- One staging buffer of output window 5, through which its contents are stated (`View.read_writes_of_cover`: the
    choice does not matter). -/
abbrev VO0_5 : View sig .tc .vmem S1x128x640 .f32 := (Memref.whole cc0_stg5_0 : Memref sig .tc .vmem S1x128x640 .f32).view
/-- Each window's current staging memref at point `t`, spelled as the pipeline passes it (`bodyAt0`), and its wholeness. -/
abbrev ms0_0 (t : Fin (cfg0 (F := F)).N) : Memref sig .tc .vmem S1x128x640 .bf16 := win0_0.stage ((cfg0 (F := F)).slots t 0)
abbrev hs0_0 (t : Fin (cfg0 (F := F)).N) : (ms0_0 (F := F) t).IsWhole := hstage0_0 (((cfg0 (F := F)).slots t 0).cast nbuf0_0)
abbrev ms0_1 (t : Fin (cfg0 (F := F)).N) : Memref sig .tc .vmem S1x8320x128 .bf16 := win0_1.stage ((cfg0 (F := F)).slots t 1)
abbrev hs0_1 (t : Fin (cfg0 (F := F)).N) : (ms0_1 (F := F) t).IsWhole := hstage0_1 (((cfg0 (F := F)).slots t 1).cast nbuf0_1)
abbrev ms0_2 (t : Fin (cfg0 (F := F)).N) : Memref sig .tc .vmem S1x128x8320 .bf16 := win0_2.stage ((cfg0 (F := F)).slots t 2)
abbrev hs0_2 (t : Fin (cfg0 (F := F)).N) : (ms0_2 (F := F) t).IsWhole := hstage0_2 (((cfg0 (F := F)).slots t 2).cast nbuf0_2)
abbrev ms0_3 (t : Fin (cfg0 (F := F)).N) : Memref sig .tc .vmem S136x256 .bf16 := win0_3.stage ((cfg0 (F := F)).slots t 3)
abbrev hs0_3 (t : Fin (cfg0 (F := F)).N) : (ms0_3 (F := F) t).IsWhole := hstage0_3 (((cfg0 (F := F)).slots t 3).cast nbuf0_3)
abbrev ms0_4 (t : Fin (cfg0 (F := F)).N) : Memref sig .tc .vmem S128x128 .f32 := win0_4.stage ((cfg0 (F := F)).slots t 4)
abbrev hs0_4 (t : Fin (cfg0 (F := F)).N) : (ms0_4 (F := F) t).IsWhole := hstage0_4 (((cfg0 (F := F)).slots t 4).cast nbuf0_4)
abbrev ms0_5 (t : Fin (cfg0 (F := F)).N) : Memref sig .tc .vmem S1x128x640 .f32 := win0_5.stage ((cfg0 (F := F)).slots t 5)
abbrev hs0_5 (t : Fin (cfg0 (F := F)).N) : (ms0_5 (F := F) t).IsWhole := hstage0_5 (((cfg0 (F := F)).slots t 5).cast nbuf0_5)

end Cert.KernelIdeal.Launch

end
-- ==== Proof.KI.Trip.lean ====
/-
  One trip of the kernel's loop and the whole loop, as functions of the values they read. A trip takes, for each of
  the five query tiles of the grid point, the key tile and the value tile `trip` places below the tile's own, and
  renews the tile's output (`o`), the running weight exponent (`c`) and the exit word; the loop repeats it while its
  test holds. The functions are the printed payloads put together as the printed program does, at any float values.
-/
module

public import proofs.«01_k».proof.Proof.Gen.KernelIdeal.Skeleton
public import Idealize.ShloMosaic.Lib.Pipeline.FrameBody
public import Idealize.ShloMosaic.Lib.WordCmp

@[expose] public section

noncomputable section

namespace Cert.KernelIdeal.Loop

open Cert.KernelIdeal Cert.KernelIdeal.Gen
open Idealize.ShloMosaic Idealize.ShloMosaic.TcCoe

variable {F : FTy → Type} [FloatOps F] [Named F]

/-- What the loop carries: the trip, the exit word, the five output tiles and the five running rows. -/
abbrev Carry (F : FTy → Type) : Type :=
  BitVec 32 × F .f32 × FVec F S128x128 .f32 × FVec F S128x128 .f32 × FVec F S128x128 .f32 × FVec F S128x128 .f32
    × FVec F S128x128 .f32 × FVec F S1x256 .f32 × FVec F S1x256 .f32 × FVec F S1x256 .f32 × FVec F S1x256 .f32 × FVec F S1x256 .f32

/-- What the loop reads and does not change: the five padded query tiles, the row numbers of a key tile, the five
    tiles' column numbers, the summation matrix, and the keys and values of the point's two heads. -/
structure Env (F : FTy → Type) where
  q0 : FVec F S128x256 .bf16
  q1 : FVec F S128x256 .bf16
  q2 : FVec F S128x256 .bf16
  q3 : FVec F S128x256 .bf16
  q4 : FVec F S128x256 .bf16
  row : IVec S128x256 32
  t0 : IVec S128x256 32
  t1 : IVec S128x256 32
  t2 : IVec S128x256 32
  t3 : IVec S128x256 32
  t4 : IVec S128x256 32
  u : Vec F S136x256 .bf16
  k : Vec F S1x8320x128 .bf16
  v : Vec F S1x128x8320 .bf16

/-- The key tile that trip `s` reads for the point's query tile `r`. -/
def keyTile (k : Vec F S1x8320x128 .bf16) (i : grid0.Coords) (s : BitVec 32) (h : k0_chk1 i s) (r : Fin 5) : Vec F S1x128x128 .bf16 :=
  View.ld (Val := Elt F) k (Rect.unit (s := S1x8320x128) (k0_off1 i s (BitVec.ofNat 32 r.val)) S1x128x128.size (k0_off1_inb i s h r))

/-- The value tile that trip `s` reads for the point's query tile `r`. -/
def valTile (v : Vec F S1x128x8320 .bf16) (i : grid0.Coords) (s : BitVec 32) (h : k0_chk1 i s) (r : Fin 5) : Vec F S1x128x128 .bf16 :=
  View.ld (Val := Elt F) v (Rect.unit (s := S1x128x8320) (k0_off2 i s (BitVec.ofNat 32 r.val)) S1x128x128.size (k0_off2_inb i s h r))

/-- The number of the key tile trip `s` reads for query tile `r`: negative once the tile has none left. -/
def tileNo (i : grid0.Coords) (r : BitVec 32) (s : BitVec 32) : BitVec 32 :=
  Scalar.subi (Scalar.addi (Scalar.muli (BitVec.ofNat 32 (i 2).val) 5#32) r) s

/-- The loop's test. -/
def goes (i : grid0.Coords) (s : BitVec 32) (live : F .f32) : BitVec 1 :=
  Scalar.andi (Scalar.cmpi .sle s (Scalar.subi (Scalar.addi (Scalar.muli (BitVec.ofNat 32 (i 2).val) 5#32) 5#32) 1#32))
    (Scalar.cmpf .ogt live (Named.named κ "exit" 0xC2D20000#32))

/-- One trip, from the key and value tiles it reads. -/
def tripOf (i : grid0.Coords) (e : Env F) (kt vt : Fin 5 → Vec F S1x128x128 .bf16) : Carry F → Carry F
  | (s, _, o0, o1, o2, o3, o4, c0, c1, c2, c3, c4) =>
    have j0 := tileNo i 0#32 s
    have j1 := tileNo i 1#32 s
    have j2 := tileNo i 2#32 s
    have j3 := tileNo i 3#32 s
    have j4 := tileNo i 4#32 s
    have z0 := k0_pay40 e.q0 (kt 0)
    have z1 := k0_pay41 e.q1 (kt 1)
    have z2 := k0_pay42 e.q2 (kt 2)
    have z3 := k0_pay43 e.q3 (kt 3)
    have z4 := k0_pay44 e.q4 (kt 4)
    have m0 := k0_pay45 e.row e.t0 j0
    have l0 := k0_pay48 (k0_pay46 e.row e.t0 j0 z0) (k0_pay47 e.row e.t0 j0 z0)
    have m1 := k0_pay49 e.row e.t1 j1
    have l1 := k0_pay50 e.row e.t1 j1 z1
    have m2 := k0_pay51 e.row e.t2 j2
    have l2 := k0_pay54 m2 (k0_pay52 z2) (k0_pay53 z2) (FloatOps.ofBits .f32 0x00000000#32)
    have m3 := k0_pay55 e.row e.t3 j3
    have l3 := k0_pay56 e.row e.t3 j3 z3
    have r4 := k0_pay57 e.row j4
    have b4 := k0_pay58 e.row e.t4 j4
    have m4 := k0_pay59 j4 r4 b4 112#32
    have g1 := k0_pay61 e.u l1
    have g2 := k0_pay62 e.u l2
    have g3 := k0_pay63 e.u l3
    have g4 := k0_pay64 e.u j4 z4 r4 b4 112#32
    have a0 := k0_pay65 e.u c0 z0 m0 l0
    have a1 := k0_pay69 m1 (k0_pay68 e.u c1 z1 l1)
    have a2 := k0_pay71 c2 z2 m2 g2
    have a3 := k0_pay73 c3 z3 m3 g3
    have a4 := k0_pay76 c4 z4 m4 g4
    have live0 := k0_pay67 e.u c0 k0_pay39 j0 l0
    have live3 := k0_pay75 c1 c2 c3 j1 j2 j3 g1 g2 g3 live0
    have live4 := k0_pay78 live3 (k0_pay77 c4 g4) (Scalar.cmpi .sge j4 1#32) (FloatOps.ofBits .f32 0xFF800000#32)
    (Scalar.addi s 1#32, k0_pay4 live4,
      k0_pay79 o0 a0 (vt 0), k0_pay80 o1 a1 (vt 1), k0_pay81 o2 a2 (vt 2),
      k0_pay2 o3 (k0_pay83 a3 (vt 3)) (k0_pay84 (vt 3)) (k0_pay85 a3) (constant S64x128 .f32 0x00000000#32),
      k0_pay3 o4 a4 (vt 4),
      k0_pay66 e.u c0 l0, k0_pay70 c1 g1, k0_pay72 c2 g2, k0_pay74 c3 g3, k0_pay77 c4 g4)

/-- One trip, reading its tiles from the environment's keys and values. -/
def trip (i : grid0.Coords) (e : Env F) (cr : Carry F) (h : k0_chk1 i cr.1) : Carry F :=
  tripOf i e (keyTile e.k i cr.1 h) (valTile e.v i cr.1 h) cr

open Classical in
/-- At most `n` trips, as long as the test holds. -/
def loop (i : grid0.Coords) (e : Env F) : ℕ → Carry F → Carry F
  | 0, cr => cr
  | n + 1, cr => if goes i cr.1 cr.2.1 = 1#1 then (if h : k0_chk1 i cr.1 then loop i e n (trip i e cr h) else cr) else cr

/-! ## The trips' numbers -/

/-- The grid point at place `g` of the last coordinate, the other two at 0: the loop's numbers depend on `g` alone. -/
def pt (g : Fin 13) : grid0.Coords := fun a => match a with
  | ⟨0, _⟩ => (0 : Fin 8)
  | ⟨1, _⟩ => (0 : Fin 4)
  | ⟨2, _⟩ => g

set_option maxRecDepth 100000 in
theorem chk_pt : ∀ (g : Fin 13) (s : Fin 65), s.val ≤ g.val * 5 + 4 → k0_chk1 (pt g) (BitVec.ofNat 32 s.val) := by
  decide +kernel

/-- A trip with a tile to read passes the program's checks. -/
theorem chk_of_le (i : grid0.Coords) (s : ℕ) (h : s ≤ (i 2).val * 5 + 4) : k0_chk1 i (BitVec.ofNat 32 s) :=
  chk_pt (i 2) ⟨s, by have : (i 2).val < 13 := (i 2).isLt; omega⟩ h

theorem off1_pt : ∀ (g : Fin 13) (s : Fin 65) (r : Fin 5), k0_off1 (pt g) (BitVec.ofNat 32 s.val) (BitVec.ofNat 32 r.val)
    = ![0, 128 * (g.val * 5 + r.val - s.val), 0] := by
  decide +kernel

theorem off1_eq (i : grid0.Coords) (s : ℕ) (hs : s < 65) (r : Fin 5) : k0_off1 i (BitVec.ofNat 32 s) (BitVec.ofNat 32 r.val)
    = ![0, 128 * ((i 2).val * 5 + r.val - s), 0] :=
  off1_pt (i 2) ⟨s, hs⟩ r

theorem off2_pt : ∀ (g : Fin 13) (s : Fin 65) (r : Fin 5), k0_off2 (pt g) (BitVec.ofNat 32 s.val) (BitVec.ofNat 32 r.val)
    = ![0, 0, 128 * (g.val * 5 + r.val - s.val)] := by
  decide +kernel

theorem off2_eq (i : grid0.Coords) (s : ℕ) (hs : s < 65) (r : Fin 5) : k0_off2 i (BitVec.ofNat 32 s) (BitVec.ofNat 32 r.val)
    = ![0, 0, 128 * ((i 2).val * 5 + r.val - s)] :=
  off2_pt (i 2) ⟨s, hs⟩ r

theorem tileNo_pt : ∀ (g : Fin 13) (s : Fin 65) (r : Fin 5), (tileNo (pt g) (BitVec.ofNat 32 r.val) (BitVec.ofNat 32 s.val)).toInt
    = (g.val * 5 + r.val : ℤ) - s.val := by
  decide +kernel

/-- The tile number, as an integer. -/
theorem tileNo_toInt (i : grid0.Coords) (s : ℕ) (hs : s < 65) (r : Fin 5) :
    (tileNo i (BitVec.ofNat 32 r.val) (BitVec.ofNat 32 s)).toInt = ((i 2).val * 5 + r.val : ℤ) - s :=
  tileNo_pt (i 2) ⟨s, hs⟩ r

theorem test_pt : ∀ (g : Fin 13) (s : Fin 66), s.val ≤ g.val * 5 + 5 → (Scalar.cmpi .sle (BitVec.ofNat 32 s.val)
      (Scalar.subi (Scalar.addi (Scalar.muli (BitVec.ofNat 32 (pt g 2).val) 5#32) 5#32) 1#32)
    = if s.val ≤ g.val * 5 + 4 then 1#1 else 0#1) := by
  decide +kernel

/-- The counter's half of the test. -/
theorem test_eq (i : grid0.Coords) (s : ℕ) (hs : s ≤ (i 2).val * 5 + 5) : Scalar.cmpi .sle (BitVec.ofNat 32 s)
      (Scalar.subi (Scalar.addi (Scalar.muli (BitVec.ofNat 32 (i 2).val) 5#32) 5#32) 1#32)
    = if s ≤ (i 2).val * 5 + 4 then 1#1 else 0#1 :=
  test_pt (i 2) ⟨s, by have : (i 2).val < 13 := (i 2).isLt; omega⟩ hs

/-- Past the last tile the test fails, whatever the exit word. -/
theorem not_goes (i : grid0.Coords) (live : F .f32) : ¬goes i (BitVec.ofNat 32 ((i 2).val * 5 + 5)) live = 1#1 := by
  unfold goes
  rw [test_eq i _ le_rfl, if_neg (by omega)]
  generalize Scalar.cmpf .ogt live _ = b
  revert b; decide

theorem addi_one (s : ℕ) : Scalar.addi (BitVec.ofNat 32 s) 1#32 = BitVec.ofNat 32 (s + 1) := by
  show BitVec.ofNat 32 s + BitVec.ofNat 32 1 = _
  rw [← BitVec.ofNat_add]

theorem trip_fst (i : grid0.Coords) (e : Env F) (cr : Carry F) (h : k0_chk1 i cr.1) : (trip i e cr h).1 = Scalar.addi cr.1 1#32 := rfl

end Cert.KernelIdeal.Loop

end
-- ==== Proof.KI.Spec.lean ====
/-
  The loop's label, answered by a specification: holding the point's key and value buffers, and started at trip `s`
  with at most `n` trips to run, the label returns what `Loop.loop` computes and leaves the two buffers as they were.
  By induction on `n`; past the last key tile the counter's half of the test fails, so `n` trips always suffice.
-/
module

public import proofs.«01_k».proof.Proof.KI.Trip
public import proofs.«01_k».proof.Proof.Gen.KernelIdeal.Launch
public import proofs.«01_k».proof.Proof.Gen.KernelIdeal.Points
public import Idealize.ShloMosaic.Lib.Tactic

@[expose] public section

set_option maxRecDepth 16384

noncomputable section

namespace Cert.KernelIdeal.Loop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's label is entered at decreasing numbers. -/
abbrev vars : Variants := Variants.nat

/-- The label's argument: the point, its two buffers, the environment and the carried values. -/
abbrev rec (i : grid0.Coords) (arg4 : Memref sig .tc .vmem S1x8320x128 .bf16) (harg4 : arg4.IsWhole)
    (arg5 : Memref sig .tc .vmem S1x128x8320 .bf16) (harg5 : arg5.IsWhole) (e : Env F) (cr : Carry F) : Cc0While1 F :=
  ⟨i, arg4, harg4, e.q0, e.q1, e.q2, e.q3, e.q4, e.row, e.t0, e.t1, e.t2, e.t3, e.t4, e.u, arg5, harg5,
    cr.1, cr.2.1, cr.2.2.1, cr.2.2.2.1, cr.2.2.2.2.1, cr.2.2.2.2.2.1, cr.2.2.2.2.2.2.1, cr.2.2.2.2.2.2.2.1,
    cr.2.2.2.2.2.2.2.2.1, cr.2.2.2.2.2.2.2.2.2.1, cr.2.2.2.2.2.2.2.2.2.2.1, cr.2.2.2.2.2.2.2.2.2.2.2⟩

section Label

variable (c : Dev nD) (i : grid0.Coords) (arg4 : Memref sig .tc .vmem S1x8320x128 .bf16) (harg4 : arg4.IsWhole)
  (arg5 : Memref sig .tc .vmem S1x128x8320 .bf16) (harg5 : arg5.IsWhole) (e : Env F)

/-- The key and value buffers, at the environment's contents. -/
def held : sProp 𝕄 :=
  iprop((arg4.view.loc (c : Thread nD τ) ↦[arg4.view.set]{fullShare} harg4.unread e.k)
    ∗ (arg5.view.loc (c : Thread nD τ) ↦[arg5.view.set]{fullShare} harg5.unread e.v))

/-- The label's specification with at most `n` trips to run from `cr`. -/
def spec (n : ℕ) (cr : Carry F) : sWPT 𝕄 (Carry F) := do
  sWPT.consume (held c arg4 harg4 arg5 harg5 e)
  sWPT.produce (held c arg4 harg4 arg5 harg5 e)
  pure (loop i e n cr)

theorem spec_apply (n : ℕ) (cr : Carry F) (K : Carry F → sProp 𝕄) :
    spec c i arg4 harg4 arg5 harg5 e n cr K
      = iprop(held c arg4 harg4 arg5 harg5 e ∗ (held c arg4 harg4 arg5 harg5 e -∗ K (loop i e n cr))) := rfl

/-- What a load of the key buffer reads. -/
def keyRead (i : grid0.Coords) (s : BitVec 32) (h : k0_chk1 i s) (arg4 : Memref sig .tc .vmem S1x8320x128 .bf16)
    (f : arg4.view.ty.Contents (Elt F)) (r : Fin 5) : Vec F S1x128x128 .bf16 :=
  arg4.view.readAt (Elt F)
    (Rect.unit (s := S1x8320x128) (k0_off1 i s (BitVec.ofNat 32 r.val)) S1x128x128.size (k0_off1_inb i s h r)).toLoadRect f

theorem keyTile_read (i : grid0.Coords) (s : BitVec 32) (h : k0_chk1 i s) (arg4 : Memref sig .tc .vmem S1x8320x128 .bf16)
    (f : arg4.view.ty.Contents (Elt F)) : keyTile (arg4.view.read (Elt F) f) i s h = keyRead i s h arg4 f := rfl

/-- What a load of the value buffer reads. -/
def valRead (i : grid0.Coords) (s : BitVec 32) (h : k0_chk1 i s) (arg5 : Memref sig .tc .vmem S1x128x8320 .bf16)
    (f : arg5.view.ty.Contents (Elt F)) (r : Fin 5) : Vec F S1x128x128 .bf16 :=
  arg5.view.readAt (Elt F)
    (Rect.unit (s := S1x128x8320) (k0_off2 i s (BitVec.ofNat 32 r.val)) S1x128x128.size (k0_off2_inb i s h r)).toLoadRect f

theorem valTile_read (i : grid0.Coords) (s : BitVec 32) (h : k0_chk1 i s) (arg5 : Memref sig .tc .vmem S1x128x8320 .bf16)
    (f : arg5.view.ty.Contents (Elt F)) : valTile (arg5.view.read (Elt F) f) i s h = valRead i s h arg5 f := rfl

/-- A trip of the environment's keys and values is the trip of what its two buffers' loads read. -/
theorem trip_eq (i : grid0.Coords) (arg4 : Memref sig .tc .vmem S1x8320x128 .bf16) (harg4 : arg4.IsWhole)
    (arg5 : Memref sig .tc .vmem S1x128x8320 .bf16) (harg5 : arg5.IsWhole) (e : Env F) (cr : Carry F) (h : k0_chk1 i cr.1) :
    trip i e cr h = tripOf i e (keyRead i cr.1 h arg4 (harg4.unread e.k)) (valRead i cr.1 h arg5 (harg5.unread e.v)) cr := by
  rw [← keyTile_read, ← valTile_read, harg4.read_unread, harg5.read_unread]; rfl

theorem tripOf_fst (i : grid0.Coords) (e : Env F) (cr : Carry F) (kt vt : Fin 5 → Vec F S1x128x128 .bf16) (s : ℕ) (hs : cr.1 = BitVec.ofNat 32 s) :
    (tripOf i e kt vt cr).1 = BitVec.ofNat 32 (s + 1) := by
  rw [← addi_one, ← hs]; rfl

/-- The call of the label on the record of `cr`, answered by the specification below the caller's number. -/
theorem call_trip (E : Set ℕ) (n s : ℕ) (cr : Carry F) (hcr : cr.1 = BitVec.ofNat 32 s) (hs : s + n = (i 2).val * 5 + 5)
    (ih : ∀ (s : ℕ) (cr : Carry F), cr.1 = BitVec.ofNat 32 s → s + n = (i 2).val * 5 + 5 → ∀ K, spec c i arg4 harg4 arg5 harg5 e n cr K
      ⊢ wp frame (wpE (defs₀ (F := F)) vars (c : Thread nD τ) (some n)) E
          (defs₀ (F := F) .tc 1 (rec i arg4 harg4 arg5 harg5 e cr)) K)
    (r : Cc0While1 F) (hr : r = rec i arg4 harg4 arg5 harg5 e cr) (K : Carry F → sProp 𝕄) :
    iprop(held c arg4 harg4 arg5 harg5 e ∗ (held c arg4 harg4 arg5 harg5 e -∗ K (loop i e n cr)))
      ⊢ wp frame (wpE (defs₀ (F := F)) vars (c : Thread nD τ) (some (n + 1))) E
          (Prog.op (TpuEff.call (1 : (Λ₀ F).Label) r) Prog.ret : Prog (TpuEff nD τ sig (Elt F) (Λ₀ F) .tc) (Carry F)) K := by
  subst hr
  iintro ⟨H, Hk⟩
  iapply (wp_call_spec vars (c : Thread nD τ) (some (n + 1)) E (spec c i arg4 harg4 arg5 harg5 e n cr) n
    (fun u hu => by cases hu; exact Nat.lt_succ_self n) (ih s cr hcr hs))
  rw [spec_apply]
  isplitl [H]; · iexact H
  iintro H
  rw [wp_ret]; imodintro
  iapply Hk
  iexact H

set_option maxHeartbeats 400000 in
/-- The label's body meets the specification, entered at number `n`. -/
theorem spec_le (E : Set ℕ) :
    ∀ n (s : ℕ) (cr : Carry F), cr.1 = BitVec.ofNat 32 s → s + n = (i 2).val * 5 + 5 → ∀ K, spec c i arg4 harg4 arg5 harg5 e n cr K
      ⊢ wp frame (wpE (defs₀ (F := F)) vars (c : Thread nD τ) (some n)) E
          (defs₀ (F := F) .tc 1 (rec i arg4 harg4 arg5 harg5 e cr)) K := by
  intro n
  induction n with
  | zero =>
    intro s cr hcr hs K
    rw [spec_apply]
    obtain ⟨s', live, o0, o1, o2, o3, o4, c0, c1, c2, c3, c4⟩ := cr
    obtain rfl : s' = _ := hcr
    obtain rfl : s = (i 2).val * 5 + 5 := hs
    show _ ⊢ wp frame (wpE (defs₀ (F := F)) vars (c : Thread nD τ) (some 0)) E
      (cc0_while1 i arg4 harg4 e.q0 e.q1 e.q2 e.q3 e.q4 e.row e.t0 e.t1 e.t2 e.t3 e.t4 e.u arg5 harg5 _ live o0 o1 o2 o3 o4 c0 c1 c2 c3 c4) K
    simp only [cc0_while1_eq_skeleton]; unfold cc0_while1_skel
    have htest := not_goes i live
    unfold goes at htest
    simp only [htest, ↓reduceIte, Prog.pure_eq_ret]
    iintro ⟨H, Hk⟩
    rw [wp_ret]; imodintro
    rw [loop]
    iapply Hk
    iexact H
  | succ n ih =>
    intro s cr hcr hs K
    rw [spec_apply]
    obtain ⟨s', live, o0, o1, o2, o3, o4, c0, c1, c2, c3, c4⟩ := cr
    obtain rfl : s' = _ := hcr
    have hchk : k0_chk1 i (BitVec.ofNat 32 s) := chk_of_le i s (by omega)
    show _ ⊢ wp frame (wpE (defs₀ (F := F)) vars (c : Thread nD τ) (some (n + 1))) E
      (cc0_while1 i arg4 harg4 e.q0 e.q1 e.q2 e.q3 e.q4 e.row e.t0 e.t1 e.t2 e.t3 e.t4 e.u arg5 harg5 _ live o0 o1 o2 o3 o4 c0 c1 c2 c3 c4) K
    simp only [cc0_while1_eq_skeleton]; unfold cc0_while1_skel
    by_cases hgo : goes i (BitVec.ofNat 32 s) live = 1#1
    · have htest := hgo
      unfold goes at htest
      rw [loop, if_pos hgo, dif_pos hchk]
      simp only [htest, ↓reduceIte, k0_part6_eq_skeleton, k0_part7_eq_skeleton, k0_part8_eq_skeleton, k0_part9_eq_skeleton,
        k0_part10_eq_skeleton, k0_part11_eq_skeleton, k0_part12_eq_skeleton]
      unfold held
      iintro ⟨⟨H1, H2⟩, Hk⟩
      sl_exec
      rw [trip_eq i arg4 harg4 arg5 harg5]
      have key := call_trip c i arg4 harg4 arg5 harg5 e E n (s + 1)
        (tripOf i e (keyRead i (BitVec.ofNat 32 s) hchk arg4 (harg4.unread e.k)) (valRead i (BitVec.ofNat 32 s) hchk arg5 (harg5.unread e.v))
          (BitVec.ofNat 32 s, live, o0, o1, o2, o3, o4, c0, c1, c2, c3, c4))
        (tripOf_fst i e (BitVec.ofNat 32 s, live, o0, o1, o2, o3, o4, c0, c1, c2, c3, c4) _ _ s rfl) (by omega) ih _ rfl K
      iapply key
      unfold held
      isplitl [H1 H2]
      · isplitl [H1]; · iexact H1
        iexact H2
      iintro ⟨H1, H2⟩
      iapply Hk
      isplitl [H1]; · iexact H1
      iexact H2
    · have htest := hgo
      unfold goes at htest
      rw [loop, if_neg hgo]
      simp only [htest, ↓reduceIte, Prog.pure_eq_ret]
      iintro ⟨H, Hk⟩
      rw [wp_ret]; imodintro
      iapply Hk
      iexact H

end Label

end Cert.KernelIdeal.Loop

end
-- ==== Proof.KI.Body.lean ====
/-
  The kernel's body at one grid point: holding the point's staging buffers it reads the five query tiles, runs the
  loop (through its specification), scales the five output tiles and stores them side by side over the result's block.
-/
module

public import proofs.«01_k».proof.Proof.KI.Setup
public import proofs.«01_k».proof.Proof.KI.Spec

@[expose] public section

set_option maxRecDepth 16384

noncomputable section

namespace Cert.KernelIdeal.Body

open Cert.KernelIdeal Cert.KernelIdeal.Gen Cert.KernelIdeal.Launch Cert.KernelIdeal.Loop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Query tile `r` of the point's block of queries. -/
def qTile (x0 : Vec F S1x128x640 .bf16) : Fin 5 → Vec F S1x128x128 .bf16
  | 0 => View.ld (Val := Elt F) x0 (Rect.unit (s := S1x128x640) ![0, 0, 0] S1x128x128.size inb_S1x128x640_S1x128x128_0_0_0)
  | 1 => View.ld (Val := Elt F) x0 (Rect.unit (s := S1x128x640) ![0, 0, 128] S1x128x128.size inb_S1x128x640_S1x128x128_0_0_128)
  | 2 => View.ld (Val := Elt F) x0 (Rect.unit (s := S1x128x640) ![0, 0, 256] S1x128x128.size inb_S1x128x640_S1x128x128_0_0_256)
  | 3 => View.ld (Val := Elt F) x0 (Rect.unit (s := S1x128x640) ![0, 0, 384] S1x128x128.size inb_S1x128x640_S1x128x128_0_0_384)
  | 4 => View.ld (Val := Elt F) x0 (Rect.unit (s := S1x128x640) ![0, 0, 512] S1x128x128.size inb_S1x128x640_S1x128x128_0_0_512)

/-- The loop's environment, from the query tiles, the whole summation matrix, and the keys and values. -/
def envOf (i : grid0.Coords) (qt : Fin 5 → Vec F S1x128x128 .bf16) (u : Vec F S136x256 .bf16) (k : Vec F S1x8320x128 .bf16)
    (v : Vec F S1x128x8320 .bf16) : Env F where
  q0 := k0_pay7 (qt 0)
  q1 := k0_pay12 k0_pay5 (k0_pay9 (qt 1)) (k0_pay10 (F := F)) (k0_pay11 (qt 1))
  q2 := k0_pay14 k0_pay5 (qt 2)
  q3 := k0_pay16 k0_pay5 (qt 3)
  q4 := k0_pay18 k0_pay5 (qt 4)
  row := iota .tc S128x256 32 [0] iota_S128x256_d0_w32
  t0 := k0_pay8 i
  t1 := k0_pay13 (BitVec.ofNat 32 (i 2).val) k0_pay6
  t2 := k0_pay15 (BitVec.ofNat 32 (i 2).val) k0_pay6
  t3 := k0_pay17 (BitVec.ofNat 32 (i 2).val) k0_pay6
  t4 := k0_pay19 k0_pay6 (Scalar.addi (Scalar.muli (BitVec.ofNat 32 (i 2).val) 5#32) 4#32)
  u := u
  k := k
  v := v

/-- What the loop starts from. -/
def start : Carry F :=
  (0#32, FloatOps.ofBits .f32 0x00000000#32, k0_pay20, k0_pay21, k0_pay22, k0_pay23, k0_pay24, k0_pay25, k0_pay26, k0_pay27, k0_pay28, k0_pay29)

/-- The summation matrix as the body loads it, whole. -/
def uTile (x3 : Vec F S136x256 .bf16) : Vec F S136x256 .bf16 :=
  View.ld (Val := Elt F) x3 (Rect.unit (s := S136x256) ![0, 0] S136x256.size inb_S136x256_S136x256_0_0)

/-- What the body's loads of the query block read. -/
def qRead (arg3 : Memref sig .tc .vmem S1x128x640 .bf16) (f : arg3.view.ty.Contents (Elt F)) : Fin 5 → Vec F S1x128x128 .bf16
  | 0 => arg3.view.readAt (Elt F) (Rect.unit (s := S1x128x640) ![0, 0, 0] S1x128x128.size inb_S1x128x640_S1x128x128_0_0_0).toLoadRect f
  | 1 => arg3.view.readAt (Elt F) (Rect.unit (s := S1x128x640) ![0, 0, 128] S1x128x128.size inb_S1x128x640_S1x128x128_0_0_128).toLoadRect f
  | 2 => arg3.view.readAt (Elt F) (Rect.unit (s := S1x128x640) ![0, 0, 256] S1x128x128.size inb_S1x128x640_S1x128x128_0_0_256).toLoadRect f
  | 3 => arg3.view.readAt (Elt F) (Rect.unit (s := S1x128x640) ![0, 0, 384] S1x128x128.size inb_S1x128x640_S1x128x128_0_0_384).toLoadRect f
  | 4 => arg3.view.readAt (Elt F) (Rect.unit (s := S1x128x640) ![0, 0, 512] S1x128x128.size inb_S1x128x640_S1x128x128_0_0_512).toLoadRect f

theorem qTile_read (arg3 : Memref sig .tc .vmem S1x128x640 .bf16) (f : arg3.view.ty.Contents (Elt F)) :
    qTile (arg3.view.read (Elt F) f) = qRead arg3 f := by
  funext r
  match r with
  | 0 => rfl
  | 1 => rfl
  | 2 => rfl
  | 3 => rfl
  | 4 => rfl

/-- What the body's load of the summation matrix reads. -/
def uRead (arg6 : Memref sig .tc .vmem S136x256 .bf16) (f : arg6.view.ty.Contents (Elt F)) : Vec F S136x256 .bf16 :=
  arg6.view.readAt (Elt F) (Rect.unit (s := S136x256) ![0, 0] S136x256.size inb_S136x256_S136x256_0_0).toLoadRect f

theorem uTile_read (arg6 : Memref sig .tc .vmem S136x256 .bf16) (f : arg6.view.ty.Contents (Elt F)) :
    uTile (arg6.view.read (Elt F) f) = uRead arg6 f := rfl

/-- What the loop returns at a point: as many trips as there are key tiles for its last query tile suffice. -/
def done (i : grid0.Coords) (x0 : Vec F S1x128x640 .bf16) (x1 : Vec F S1x8320x128 .bf16) (x2 : Vec F S1x128x8320 .bf16)
    (x3 : Vec F S136x256 .bf16) : Carry F :=
  loop i (envOf i (qTile x0) (uTile x3) x1 x2) ((i 2).val * 5 + 5) start

theorem done_read (i : grid0.Coords) (arg3 : Memref sig .tc .vmem S1x128x640 .bf16) (harg3 : arg3.IsWhole)
    (arg6 : Memref sig .tc .vmem S136x256 .bf16) (harg6 : arg6.IsWhole)
    (x0 : Vec F S1x128x640 .bf16) (x1 : Vec F S1x8320x128 .bf16) (x2 : Vec F S1x128x8320 .bf16) (x3 : Vec F S136x256 .bf16) :
    loop i (envOf i (qRead arg3 (harg3.unread x0)) (uRead arg6 (harg6.unread x3)) x1 x2) ((i 2).val * 5 + 5) start = done i x0 x1 x2 x3 := by
  rw [← qTile_read, ← uTile_read, harg3.read_unread, harg6.read_unread]; rfl

/-- The call of the loop's label from the body: it returns what the loop computes, component by component. -/
theorem call_loop (c : Dev nD) (i : grid0.Coords) (arg4 : Memref sig .tc .vmem S1x8320x128 .bf16) (harg4 : arg4.IsWhole)
    (arg5 : Memref sig .tc .vmem S1x128x8320 .bf16) (harg5 : arg5.IsWhole) (e : Env F) (E : Set ℕ) (cr' : Carry F)
    (hd : loop i e ((i 2).val * 5 + 5) start = cr')
    (r : Cc0While1 F) (hr : r = rec i arg4 harg4 arg5 harg5 e start) {α : Type}
    (p : Carry F → Prog (TpuEff nD τ sig (Elt F) (Λ₀ F) .tc) α) (K : α → sProp 𝕄) :
    iprop(held c arg4 harg4 arg5 harg5 e ∗ (held c arg4 harg4 arg5 harg5 e -∗
        wp frame (wpE (defs₀ (F := F)) vars (c : Thread nD τ) none) E
          (p (cr'.1, cr'.2.1, cr'.2.2.1, cr'.2.2.2.1, cr'.2.2.2.2.1, cr'.2.2.2.2.2.1, cr'.2.2.2.2.2.2.1, cr'.2.2.2.2.2.2.2.1,
    cr'.2.2.2.2.2.2.2.2.1, cr'.2.2.2.2.2.2.2.2.2.1, cr'.2.2.2.2.2.2.2.2.2.2.1, cr'.2.2.2.2.2.2.2.2.2.2.2)) K))
      ⊢ wp frame (wpE (defs₀ (F := F)) vars (c : Thread nD τ) none) E
          (Prog.op (TpuEff.call (1 : (Λ₀ F).Label) r) p : Prog (TpuEff nD τ sig (Elt F) (Λ₀ F) .tc) α) K := by
  subst hr hd
  iintro ⟨H, Hk⟩
  iapply (wp_call_spec vars (c : Thread nD τ) none E (spec c i arg4 harg4 arg5 harg5 e ((i 2).val * 5 + 5) start) ((i 2).val * 5 + 5)
    (fun u hu => by cases hu) (spec_le c i arg4 harg4 arg5 harg5 e E _ 0 start rfl (Nat.zero_add _)))
  rw [spec_apply]
  isplitl [H]; · iexact H
  iintro H
  iapply Hk
  iexact H

set_option maxHeartbeats 400000 in
/-- What the body's stores leave in the result's buffer, as pieces, with the proof that it leaves them. -/
noncomputable def bodyRun (c : Dev nD) (i : grid0.Coords) (arg3 : Memref sig .tc .vmem S1x128x640 .bf16) (harg3 : arg3.IsWhole) (arg4 : Memref sig .tc .vmem S1x8320x128 .bf16) (harg4 : arg4.IsWhole) (arg5 : Memref sig .tc .vmem S1x128x8320 .bf16) (harg5 : arg5.IsWhole) (arg6 : Memref sig .tc .vmem S136x256 .bf16) (harg6 : arg6.IsWhole) (arg7 : Memref sig .tc .vmem S128x128 .f32) (harg7 : arg7.IsWhole) (arg8 : Memref sig .tc .vmem S1x128x640 .f32) (harg8 : arg8.IsWhole)
    (x0 : Vec F S1x128x640 .bf16) (x1 : Vec F S1x8320x128 .bf16) (x2 : Vec F S1x128x8320 .bf16) (x3 : Vec F S136x256 .bf16) (x4 : Vec F S128x128 .f32) :
    { L5 : List (View.Piece (Elt F) S1x128x640 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) vars c none) E (cc0_sb_attention i arg3 harg3 arg4 harg4 arg5 harg5 arg6 harg6 arg7 harg7 arg8 harg8) K } := by
  refine ⟨?_, fun E K => ?run⟩
  case run =>
    simp only [cc0_sb_attention_eq_skeleton]; unfold cc0_sb_attention_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2; obtain rfl := harg6.eq_unread hf3; obtain rfl := harg7.eq_unread hf4
    sl_exec
    iapply (call_loop c i arg4 harg4 arg5 harg5 (envOf i (qRead arg3 (harg3.unread x0)) (uRead arg6 (harg6.unread x3)) x1 x2) E
      (done i x0 x1 x2 x3) (done_read i arg3 harg3 arg6 harg6 x0 x1 x2 x3) _ rfl)
    unfold held
    isplitl [H1 H2]
    · isplitl [H1]; · iexact H1
      iexact H2
    iintro ⟨H1, H2⟩
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.Body

end
-- ==== Proof.KI.Run.lean ====
/-
  The whole program: what the body leaves in the result's block at every point, the pipeline's proof data, the body's
  obligation, the run, and from it the frame — every execution ends, the arguments as launched and every counter at
  zero — and the run with the result array named.
-/
module

public import proofs.«01_k».proof.Proof.KI.Body
public import Idealize.ShloMosaic.Lib.Pipeline.Value
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen Cert.KernelIdeal.Launch Cert.KernelIdeal.Loop Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The five pieces lie side by side and cover the block. -/
theorem cover5 (c : Dev nD) (i : grid0.Coords) (arg3 : Memref sig .tc .vmem S1x128x640 .bf16) (harg3 : arg3.IsWhole) (arg4 : Memref sig .tc .vmem S1x8320x128 .bf16) (harg4 : arg4.IsWhole) (arg5 : Memref sig .tc .vmem S1x128x8320 .bf16) (harg5 : arg5.IsWhole) (arg6 : Memref sig .tc .vmem S136x256 .bf16) (harg6 : arg6.IsWhole) (arg7 : Memref sig .tc .vmem S128x128 .f32) (harg7 : arg7.IsWhole) (arg8 : Memref sig .tc .vmem S1x128x640 .f32) (harg8 : arg8.IsWhole)
    (x0 : Vec F S1x128x640 .bf16) (x1 : Vec F S1x8320x128 .bf16) (x2 : Vec F S1x128x8320 .bf16) (x3 : Vec F S136x256 .bf16) (x4 : Vec F S128x128 .f32) (y : S1x128x640.Idx) :
    ∃ pc ∈ (bodyRun c i arg3 harg3 arg4 harg4 arg5 harg5 arg6 harg6 arg7 harg7 arg8 harg8 x0 x1 x2 x3 x4).1, y ∈ pc.1.set :=
  View.cover_of_tiledL (bodyRun c i arg3 harg3 arg4 harg4 arg5 harg5 arg6 harg6 arg7 harg7 arg8 harg8 x0 x1 x2 x3 x4).1 S1x128x128.size (by sl_kernel_rfl) y

/-- What the run leaves in output 5's staging buffer: its pieces read back over junk. -/
def out5 (c : Dev nD) (i : grid0.Coords) (arg3 : Memref sig .tc .vmem S1x128x640 .bf16) (harg3 : arg3.IsWhole) (arg4 : Memref sig .tc .vmem S1x8320x128 .bf16) (harg4 : arg4.IsWhole) (arg5 : Memref sig .tc .vmem S1x128x8320 .bf16) (harg5 : arg5.IsWhole) (arg6 : Memref sig .tc .vmem S136x256 .bf16) (harg6 : arg6.IsWhole) (arg7 : Memref sig .tc .vmem S128x128 .f32) (harg7 : arg7.IsWhole) (arg8 : Memref sig .tc .vmem S1x128x640 .f32) (harg8 : arg8.IsWhole)
    (x0 : Vec F S1x128x640 .bf16) (x1 : Vec F S1x8320x128 .bf16) (x2 : Vec F S1x128x8320 .bf16) (x3 : Vec F S136x256 .bf16) (x4 : Vec F S128x128 .f32) : Vec F S1x128x640 .f32 :=
  VO0_5.read (Elt F) (VO0_5.writes (Elt F) VO0_5.junk (bodyRun c i arg3 harg3 arg4 harg4 arg5 harg5 arg6 harg6 arg7 harg7 arg8 harg8 x0 x1 x2 x3 x4).1)

/-! ## What the outputs hold after each point -/

/-- What the outputs' staging buffers hold after the body at point `t`: the run's contents at
    the point's memrefs and input blocks. -/
def outsAt (c : Dev nD) (t : Fin (cfg0 (F := F)).N) : Vec F S1x128x640 .f32 :=
  out5 c (grid0.coords t) (ms0_0 (F := F) t) (hs0_0 (F := F) t) (ms0_1 (F := F) t) (hs0_1 (F := F) t) (ms0_2 (F := F) t) (hs0_2 (F := F) t) (ms0_3 (F := F) t) (hs0_3 (F := F) t) (ms0_4 (F := F) t) (hs0_4 (F := F) t) (ms0_5 (F := F) t) (hs0_5 (F := F) t) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt`; the invariant the class's
    (Lib/Pipeline/Frame.lean `ΦA`: the scoped rest and the generator register); nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after (0 : Fin 6) t = iblk m c 0 t := by dsimp only [dats]
theorem after0_1 (c : Dev nD) (t : Fin (cfg0 (F := F)).N) : (dats m 0 c).after (1 : Fin 6) t = iblk m c 1 t := by dsimp only [dats]
theorem after0_2 (c : Dev nD) (t : Fin (cfg0 (F := F)).N) : (dats m 0 c).after (2 : Fin 6) t = iblk m c 2 t := by dsimp only [dats]
theorem after0_3 (c : Dev nD) (t : Fin (cfg0 (F := F)).N) : (dats m 0 c).after (3 : Fin 6) t = iblk m c 3 t := by dsimp only [dats]
theorem after0_4 (c : Dev nD) (t : Fin (cfg0 (F := F)).N) : (dats m 0 c).after (4 : Fin 6) t = iblk m c 4 t := by dsimp only [dats]
theorem after0_5 (c : Dev nD) (t : Fin (cfg0 (F := F)).N) : (dats m 0 c).after (5 : Fin 6) t = (outsAt m c t) := by dsimp only [dats]

/-- Each input's current staging buffer holds its block at every point, fetched there or not (`beforeK_W_of`). -/
theorem before0_0 (c : Dev nD) (t : Fin (cfg0 (F := F)).N) (d) : (dats m 0 c).before (0 : Fin 6) t d = iblk m c 0 t :=
  before0_0_of m (dats m 0 c) (A_eq m c 0) (after0_0 m c) t d
theorem before0_1 (c : Dev nD) (t : Fin (cfg0 (F := F)).N) (d) : (dats m 0 c).before (1 : Fin 6) t d = iblk m c 1 t :=
  before0_1_of m (dats m 0 c) (A_eq m c 1) (after0_1 m c) t d
theorem before0_2 (c : Dev nD) (t : Fin (cfg0 (F := F)).N) (d) : (dats m 0 c).before (2 : Fin 6) t d = iblk m c 2 t :=
  before0_2_of m (dats m 0 c) (A_eq m c 2) (after0_2 m c) t d
theorem before0_3 (c : Dev nD) (t : Fin (cfg0 (F := F)).N) (d) : (dats m 0 c).before (3 : Fin 6) t d = iblk m c 3 t :=
  before0_3_of m (dats m 0 c) (A_eq m c 3) (after0_3 m c) t d
theorem before0_4 (c : Dev nD) (t : Fin (cfg0 (F := F)).N) (d) : (dats m 0 c).before (4 : Fin 6) t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 (F := F) t) fullShare ((dats m 0 c).before (0 : Fin 6) t d))
    ∗ (∃ d, owns (c : Thread nD τ) (ms0_1 (F := F) t) fullShare ((dats m 0 c).before (1 : Fin 6) t d))
    ∗ (∃ d, owns (c : Thread nD τ) (ms0_2 (F := F) t) fullShare ((dats m 0 c).before (2 : Fin 6) t d))
    ∗ (∃ d, owns (c : Thread nD τ) (ms0_3 (F := F) t) fullShare ((dats m 0 c).before (3 : Fin 6) t d))
    ∗ (∃ d, owns (c : Thread nD τ) (ms0_4 (F := F) t) fullShare ((dats m 0 c).before (4 : Fin 6) t d))
    ∗ (∃ d, owns (c : Thread nD τ) (ms0_5 (F := F) t) fullShare ((dats m 0 c).before (5 : Fin 6) t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 (F := F) t) fullShare ((dats m 0 c).after (0 : Fin 6) t)
    ∗ owns (c : Thread nD τ) (ms0_1 (F := F) t) fullShare ((dats m 0 c).after (1 : Fin 6) t)
    ∗ owns (c : Thread nD τ) (ms0_2 (F := F) t) fullShare ((dats m 0 c).after (2 : Fin 6) t)
    ∗ owns (c : Thread nD τ) (ms0_3 (F := F) t) fullShare ((dats m 0 c).after (3 : Fin 6) t)
    ∗ owns (c : Thread nD τ) (ms0_4 (F := F) t) fullShare ((dats m 0 c).after (4 : Fin 6) t)
    ∗ owns (c : Thread nD τ) (ms0_5 (F := F) t) fullShare ((dats m 0 c).after (5 : Fin 6) t))

/-- The body at any point: the inputs' memrefs hold their blocks (`before0_W`); so the
    run applies; the invariant passes through unread; the core owes nothing throughout. -/
theorem sound_body (c : Dev nD) (t : Fin (cfg0 (F := F)).N) :
    bodyPre m c t ⊢ wp frame (wpE (defs₀ (F := F)) vars c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt
  unfold out5
  iintro ⟨HΦ, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover5 c _ _ _ _ _ _ _ _ _ _ _ _ _ _ _ _ _ _)

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) vars () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ vars m ρ main
    (hbody := fun c => (body_obligation m c).loose) (hshare := fun c => (dats m 0 c).share_full fun _ => rfl)
    (howed := fun _ _ => rfl) (V := V m) (hmain := hmain m vars) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The run with the result named -/

/-- After the frame run, output window 5's array is `(dats m 0 c).arrAt 5 N`. -/
theorem post5 (r : PUnit × MemSt nD τ sig (Elt F)) (h : Pipeline.FramePost (cfgs (F := F)) (dats m) 0 (V m) r) (c : Dev nD) :
    r.2.mem ((c : Thread nD τ).loc main_v2) = (dats m 0 c).arrAt 5 (cfg0 (F := F)).N :=
  (h c).1 5

/-- After the frame run, argument `main_arg0` is as launched: input window 0 stages it and never writes it back. -/
theorem kept_main_arg0 (r : PUnit × MemSt nD τ sig (Elt F)) (h : Pipeline.FramePost (cfgs (F := F)) (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost (cfgs (F := F)) (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost (cfgs (F := F)) (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost (cfgs (F := F)) (dats m) 0 (V m) r) (c : Dev nD) :
    r.2.mem ((c : Thread nD τ).loc main_arg3) = m ((c : Thread nD τ).loc main_arg3) :=
  ((h c).2 main_arg3 (Pipeline.mem_restRefs_of main_arg3 (by decide) arg3_unstaged)).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 5 (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post5 m r h c,
      kept_main_arg0 m r h c,
      kept_main_arg1 m r h c,
      kept_main_arg2 m r h c,
      kept_main_arg3 m r h c⟩)
    (run_main m ρ)

end Cert.KernelIdeal.Run

end
-- ==== Proof.KI.Tile.lean ====
/-
  One query tile's part of a trip, as functions of what it reads, uniform over the point's five tiles: the program
  prints the five tiles' parts in different cuts, and each is the same function.
-/
module

public import proofs.«01_k».proof.Proof.KI.Body
public import Idealize.ShloMosaic.Lib.Pointwise

@[expose] public section

noncomputable section

namespace Cert.KernelIdeal.Tile

open Cert.KernelIdeal Cert.KernelIdeal.Gen Cert.KernelIdeal.Loop Cert.KernelIdeal.Body
open Idealize.ShloMosaic Idealize.ShloMosaic.TcCoe

variable {F : FTy → Type} [FloatOps F] [Named F]

/-- The padded pair of query tiles: the first head's rows over the first 128 lanes, the second's over the others. -/
def qpad (x : Vec F S1x128x128 .bf16) : FVec F S128x256 .bf16 := k0_pay7 x

/-- The column numbers of query tile number `w`. -/
def cols (w : BitVec 32) : IVec S128x256 32 := addi k0_pay6 (broadcast S128x256 (Scalar.muli w 128#32))

/-- The row numbers within a key tile. -/
def rows : IVec S128x256 32 := iota .tc S128x256 32 [0] iota_S128x256_d0_w32

/-- The scores of a key tile against the padded queries. -/
def score (q : FVec F S128x256 .bf16) (kt : Vec F S1x128x128 .bf16) : FVec F S128x256 .f32 := k0_pay40 q kt

/-- Which of key tile `j`'s rows count at which column. -/
def counts (t : IVec S128x256 32) (j : BitVec 32) : IVec S128x256 1 := k0_pay45 rows t j

/-- The softplus of the scores, in two halves. -/
def halves (t : IVec S128x256 32) (j : BitVec 32) (z : FVec F S128x256 .f32) : FVec F S256x256 .bf16 :=
  k0_pay48 (k0_pay46 rows t j z) (k0_pay47 rows t j z)

/-- The weights of a key tile. -/
def weights (u : Vec F S136x256 .bf16) (t : IVec S128x256 32) (j : BitVec 32) (c : FVec F S1x256 .f32) (z : FVec F S128x256 .f32) :
    FVec F S128x256 .bf16 :=
  k0_pay65 u c z (counts t j) (halves t j z)

/-- The running row after a key tile. -/
def rowStep (u : Vec F S136x256 .bf16) (t : IVec S128x256 32) (j : BitVec 32) (c : FVec F S1x256 .f32) (z : FVec F S128x256 .f32) :
    FVec F S1x256 .f32 :=
  k0_pay66 u c (halves t j z)

/-- The output tile after a key tile. -/
def outStep (o : FVec F S128x128 .f32) (a : FVec F S128x256 .bf16) (vt : Vec F S1x128x128 .bf16) : FVec F S128x128 .f32 :=
  k0_pay79 o a vt

/-- A tile's part of the exit word's row. -/
def liveStep (l : FVec F S1x256 .f32) (j : BitVec 32) (c : FVec F S1x256 .f32) : FVec F S1x256 .f32 :=
  maximumf l (Scalar.select (Scalar.cmpi .sge j 1#32) c (broadcast S1x256 (FloatOps.ofBits .f32 0xFF800000#32)))

theorem q1_eq (x : Vec F S1x128x128 .bf16) : k0_pay12 k0_pay5 (k0_pay9 x) (k0_pay10 (F := F)) (k0_pay11 x) = qpad x := rfl
theorem q2_eq (x : Vec F S1x128x128 .bf16) : k0_pay14 k0_pay5 x = qpad x := rfl
theorem q3_eq (x : Vec F S1x128x128 .bf16) : k0_pay16 k0_pay5 x = qpad x := rfl
theorem q4_eq (x : Vec F S1x128x128 .bf16) : k0_pay18 k0_pay5 x = qpad x := rfl

/-- The point's tile number `r`. -/
def tileOf (i : grid0.Coords) (r : BitVec 32) : BitVec 32 := Scalar.addi (Scalar.muli (BitVec.ofNat 32 (i 2).val) 5#32) r

variable (i : grid0.Coords) (u : Vec F S136x256 .bf16) (x kt : Vec F S1x128x128 .bf16) (t : IVec S128x256 32) (j : BitVec 32)
  (z : FVec F S128x256 .f32) (c : FVec F S1x256 .f32) (o : FVec F S128x128 .f32) (vt : Vec F S1x128x128 .bf16)

theorem m1_eq : k0_pay49 rows t j = counts t j := rfl
theorem m2_eq : k0_pay51 rows t j = counts t j := rfl
theorem m3_eq : k0_pay55 rows t j = counts t j := rfl
theorem m4_eq : k0_pay59 j (k0_pay57 rows j) (k0_pay58 rows t j) 112#32 = counts t j := rfl

theorem l1_eq : k0_pay50 rows t j z = halves t j z := rfl
theorem l2_eq : k0_pay54 (k0_pay51 rows t j) (k0_pay52 z) (k0_pay53 z) (FloatOps.ofBits .f32 0x00000000#32) = halves t j z := rfl
theorem l3_eq : k0_pay56 rows t j z = halves t j z := rfl

theorem a1_eq : k0_pay69 (counts t j) (k0_pay68 u c z (halves t j z)) = weights u t j c z := rfl
theorem a2_eq : k0_pay71 c z (counts t j) (k0_pay62 u (halves t j z)) = weights u t j c z := rfl
theorem a3_eq : k0_pay73 c z (counts t j) (k0_pay63 u (halves t j z)) = weights u t j c z := rfl
theorem g4_eq : k0_pay64 u j z (k0_pay57 rows j) (k0_pay58 rows t j) 112#32 = k0_pay60 u (halves t j z) := rfl
theorem a4_eq : k0_pay76 c z (counts t j) (k0_pay60 u (halves t j z)) = weights u t j c z := rfl

theorem c1_eq : k0_pay70 c (k0_pay61 u (halves t j z)) = rowStep u t j c z := rfl
theorem c2_eq : k0_pay72 c (k0_pay62 u (halves t j z)) = rowStep u t j c z := rfl
theorem c3_eq : k0_pay74 c (k0_pay63 u (halves t j z)) = rowStep u t j c z := rfl
theorem c4_eq : k0_pay77 c (k0_pay60 u (halves t j z)) = rowStep u t j c z := rfl

variable (a : FVec F S128x256 .bf16)
theorem o1_eq : k0_pay80 o a vt = outStep o a vt := rfl
theorem o2_eq : k0_pay81 o a vt = outStep o a vt := rfl
theorem o3_eq : k0_pay2 o (k0_pay83 a vt) (k0_pay84 vt) (k0_pay85 a) (constant S64x128 .f32 0x00000000#32) = outStep o a vt := rfl
theorem o4_eq : k0_pay3 o a vt = outStep o a vt := rfl

end Cert.KernelIdeal.Tile

end
-- ==== Proof.KI.Math.lean ====
/-
  The numbers of stick-breaking attention for one column of queries, over the reals: a column's scores `Z` against the
  rows of keys, the softplus of the rows that count, its sums over ranges of rows, and the weights.
-/
module

public import Idealize.ShloMosaic.Lib.Pointwise
public import Mathlib.Analysis.SpecialFunctions.Log.Basic

@[expose] public section

noncomputable section

namespace Cert.Stick

open Idealize.ShloMosaic

/-- The softplus. -/
def sp (x : ℝ) : ℝ := Real.log (1 + Real.exp x)

/-- Row `p` counts for column `t`: it lies past the padding and strictly before the column. -/
def Counts (t p : ℕ) : Prop := 112 ≤ p ∧ p < t

instance (t p : ℕ) : Decidable (Counts t p) := inferInstanceAs (Decidable (_ ∧ _))

/-- The softplus of the row's score where the row counts. -/
def S (Z : ℕ → ℝ) (t p : ℕ) : ℝ := if Counts t p then sp (Z p) else 0

/-- Its sum over a range of rows. -/
def C (Z : ℕ → ℝ) (t lo hi : ℕ) : ℝ := ∑ p ∈ Finset.Ico lo hi, S Z t p

/-- The weight of a row, the rows from it up to `hi` taken off its score. -/
def A (Z : ℕ → ℝ) (t hi p : ℕ) : ℝ := if Counts t p then Real.exp (Z p - C Z t p hi) else 0

theorem sp_eq (x : ℝ) : max x 0 + Real.log (1 + Real.exp (-|x|)) = sp x := by
  unfold sp
  rcases le_total 0 x with h | h
  · rw [max_eq_left h, abs_of_nonneg h]
    have : 1 + Real.exp x = Real.exp x * (1 + Real.exp (-x)) := by
      rw [mul_add, mul_one, ← Real.exp_add, add_neg_cancel, Real.exp_zero, add_comm]
    rw [this, Real.log_mul (Real.exp_ne_zero _) (by positivity), Real.log_exp]
  · rw [max_eq_right h, abs_of_nonpos h, zero_add, neg_neg]

theorem sp_neg (x : ℝ) : -sp (-x) = x - sp x := by
  unfold sp
  have : 1 + Real.exp (-x) = Real.exp (-x) * (1 + Real.exp x) := by
    rw [mul_add, mul_one, ← Real.exp_add, neg_add_cancel, Real.exp_zero, add_comm]
  rw [this, Real.log_mul (Real.exp_ne_zero _) (by positivity), Real.log_exp]
  ring

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) y := by
  rcases le_total x y with h | h
  · rw [max_eq_right h, max_eq_right (EReal.coe_le_coe_iff.2 h)]
  · rw [max_eq_left h, max_eq_left (EReal.coe_le_coe_iff.2 h)]

/-- The softplus as the kernel computes it. -/
theorem softplus (x : ℝ) : max (x : EReal) 0 + Ideal.log (1 + Ideal.exp (0 - max (x : EReal) (-(x : EReal)))) = (sp x : EReal) := by
  rw [← EReal.coe_neg, ← coe_max, ← EReal.coe_zero, ← coe_max, ← EReal.coe_sub, zero_sub, ← abs_eq_max_neg, Ideal.exp_coe, ← EReal.coe_one,
    ← EReal.coe_add, Ideal.log_coe, if_neg (not_le.2 (by positivity)), ← EReal.coe_add, sp_eq]

theorem C_split (Z : ℕ → ℝ) (t : ℕ) {a b c : ℕ} (hab : a ≤ b) (hbc : b ≤ c) : C Z t a b + C Z t b c = C Z t a c :=
  Finset.sum_Ico_consecutive _ hab hbc

theorem C_above (Z : ℕ → ℝ) (t : ℕ) {lo hi : ℕ} (h : t ≤ lo) : C Z t lo hi = 0 :=
  Finset.sum_eq_zero fun p hp => if_neg fun hc => absurd hc.2 (not_lt.2 (h.trans (Finset.mem_Ico.1 hp).1))

theorem C_to (Z : ℕ → ℝ) (t : ℕ) {lo hi : ℕ} (hlo : lo ≤ t) (h : t ≤ hi) : C Z t lo hi = C Z t lo t := by
  rw [← C_split Z t hlo h, C_above Z t le_rfl, add_zero]

theorem A_to (Z : ℕ → ℝ) (t p : ℕ) {hi hi' : ℕ} (h : t ≤ hi) (h' : t ≤ hi') : A Z t hi p = A Z t hi' p := by
  unfold A
  split
  · next hc => rw [C_to Z t hc.2.le h, C_to Z t hc.2.le h']
  · rfl

theorem A_above (Z : ℕ → ℝ) (t hi p : ℕ) (h : t ≤ p) : A Z t hi p = 0 := if_neg fun hc => absurd hc.2 (not_lt.2 h)

theorem A_below (Z : ℕ → ℝ) (t hi p : ℕ) (h : p < 112) : A Z t hi p = 0 := if_neg fun hc => absurd hc.1 (not_le.2 h)

/-- The weighted sum of a column of values over the rows of a range. -/
def O (Z : ℕ → ℝ) (t hi : ℕ) (V : ℕ → EReal) (lo : ℕ) : EReal := ∑ p ∈ Finset.Ico lo hi, V p * (A Z t hi p : EReal)

theorem O_split (Z : ℕ → ℝ) (t hi : ℕ) (V : ℕ → EReal) {lo b : ℕ} (h : lo ≤ b) (hb : b ≤ hi) :
    ∑ p ∈ Finset.Ico lo b, V p * (A Z t hi p : EReal) + O Z t hi V b = O Z t hi V lo :=
  Finset.sum_Ico_consecutive _ h hb

/-- Rows past the column add nothing. -/
theorem O_to (Z : ℕ → ℝ) (t : ℕ) (V : ℕ → EReal) {hi hi' : ℕ} (h : t ≤ hi) (hh : hi ≤ hi') :
    O Z t hi V 0 = O Z t hi' V 0 := by
  unfold O
  rw [← Finset.sum_Ico_consecutive _ (Nat.zero_le hi) hh, Finset.sum_eq_zero (s := Finset.Ico hi hi') (fun p hp => ?_), add_zero]
  · exact Finset.sum_congr rfl fun p _ => by rw [A_to Z t p h (h.trans hh)]
  · rw [A_above Z t hi' p (h.trans (Finset.mem_Ico.1 hp).1), EReal.coe_zero, mul_zero]

/-- A sum over 128 rows of a tile is a sum over a range. -/
theorem sum_tile {M : Type*} [AddCommMonoid M] (f : ℕ → M) (n a b : ℕ) (hb : b = a + n) :
    ∑ x : Fin n, f (a + x.val) = ∑ p ∈ Finset.Ico a b, f p := by
  subst hb
  rw [Finset.sum_Ico_eq_sum_range, Nat.add_sub_cancel_left, Finset.sum_range]

/-- The sum over the rows from `a` on within a tile of 128 rows. -/
theorem sum_tail {M : Type*} [AddCommMonoid M] (f : ℕ → M) (b : ℕ) (a : Fin 128) :
    ∑ x : Fin 128, (if a.val ≤ x.val then f (b + x.val) else 0) = ∑ p ∈ Finset.Ico (b + a.val) (b + 128), f p := by
  rw [Finset.sum_fin_eq_sum_range]
  rw [Finset.sum_Ico_eq_sum_range, show b + 128 - (b + a.val) = 128 - a.val by omega]
  have h : ∀ x ∈ Finset.range 128, (if h : x < 128 then (if a.val ≤ (⟨x, h⟩ : Fin 128).val then f (b + (⟨x, h⟩ : Fin 128).val) else 0) else 0)
      = if a.val ≤ x then f (b + x) else 0 := fun x hx => by rw [dif_pos (Finset.mem_range.1 hx)]
  rw [Finset.sum_congr rfl h, Finset.range_eq_Ico, ← Finset.sum_Ico_consecutive _ (Nat.zero_le a.val) a.isLt.le,
    Finset.sum_eq_zero (s := Finset.Ico 0 a.val) (fun x hx => if_neg (not_le.2 (Finset.mem_Ico.1 hx).2)), zero_add,
    Finset.sum_Ico_eq_sum_range]
  exact Finset.sum_congr rfl fun x _ => by rw [if_pos (Nat.le_add_right _ _), Nat.add_assoc]

end Cert.Stick

end
-- ==== Proof.KI.TileRead.lean ====
/-
  What one tile's part of a trip is worth over the extended reals, element by element: with real scores, the running row
  takes off the sum of the softplus of the rows that count, and the weights are the stick-breaking weights.
-/
module

public import proofs.«01_k».proof.Proof.KI.Tile
public import proofs.«01_k».proof.Proof.KI.Math
public import Idealize.ShloMosaic.Lib.WordCmp

@[expose] public section

noncomputable section

namespace Cert.KernelIdeal.Tile

open Cert.KernelIdeal Cert.KernelIdeal.Gen Cert.KernelIdeal.Loop Cert.KernelIdeal.Body Cert.Stick
open Idealize.ShloMosaic Idealize.ShloMosaic.TcCoe Idealize.ShloMosaic.WordCmp

/-! ## The column numbers and the rows that count -/

theorem lane_word : ∀ l : Fin 256,
    (Scalar.select
        (IntOp.andi
          (IntOp.xori
            (IntOp.cmpi CmpIPredicate.slt
              (IntOp.remsi ArithUnit.vector (BitVec.ofNat 32 l.val)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 l.val)
              (Scalar.select (Scalar.cmpi CmpIPredicate.eq 128#32 0#32) 1#32 128#32))
            0#32))
        (IntOp.addi
          (IntOp.remsi ArithUnit.vector (BitVec.ofNat 32 l.val)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 l.val)
          (Scalar.select (Scalar.cmpi CmpIPredicate.eq 128#32 0#32) 1#32 128#32))) = BitVec.ofNat 32 (l.val % 128) := by
  decide +kernel

theorem tile_word : ∀ (g : Fin 13) (r : Fin 5),
    Scalar.muli (Scalar.addi (Scalar.muli (BitVec.ofNat 32 g.val) 5#32) (BitVec.ofNat 32 r.val)) 128#32 = BitVec.ofNat 32 (128 * (g.val * 5 + r.val)) := by
  decide +kernel

theorem row_word : ∀ n : Fin 65, Scalar.muli (Scalar.maxsi (BitVec.ofNat 32 n.val) 0#32) 128#32 = BitVec.ofNat 32 (128 * n.val) := by
  decide +kernel

/-- A lane's column. -/
def col (i : grid0.Coords) (r : Fin 5) (l : Fin 256) : ℕ := 128 * ((i 2).val * 5 + r.val) + l.val % 128

theorem cols_apply (i : grid0.Coords) (r : Fin 5) (a : Fin 128) (l : Fin 256) :
    cols (tileOf i (BitVec.ofNat 32 r.val)) (ix2 a l) = BitVec.ofNat 32 (col i r l) := by
  pointwise [cols, k0_pay6]
  rw [lane_word l]
  rw [show Scalar.muli (tileOf i (BitVec.ofNat 32 r.val)) 128#32 = BitVec.ofNat 32 (128 * ((i 2).val * 5 + r.val)) from tile_word (i 2) r]
  exact (BitVec.ofNat_add ..).symm.trans (congrArg _ (Nat.add_comm ..))

theorem col_lt (i : grid0.Coords) (r : Fin 5) (l : Fin 256) : col i r l < 8320 := by
  have h2 : (i 2).val < 13 := (i 2).isLt
  have := r.isLt
  unfold col; omega

theorem counts_of_neg (t : IVec S128x256 32) (j : BitVec 32) (h : j.toInt < 0) (a : Fin 128) (l : Fin 256) :
    counts t j (ix2 a l) = 0#1 := by
  pointwise [counts, rows, k0_pay45]
  rw [show Scalar.cmpi CmpIPredicate.sge j 0#32 = 0#1 from by
    show BitVec.ofBool (decide ((0#32 : BitVec 32).toInt ≤ j.toInt)) = 0#1
    rw [decide_eq_false (by rw [BitVec.toInt_zero]; omega)]; rfl]
  exact BitVec.and_zero

theorem counts_of_nat (t : IVec S128x256 32) (n : ℕ) (hn : n < 65) (a : Fin 128) (l : Fin 256) (tn : ℕ) (ht : tn < 8320)
    (h : t (ix2 a l) = BitVec.ofNat 32 tn) :
    counts t (BitVec.ofNat 32 n) (ix2 a l) = if Counts tn (128 * n + a.val) then 1#1 else 0#1 := by
  pointwise [counts, rows, k0_pay45]
  rw [h, row_word ⟨n, hn⟩]
  rw [show IntOp.addi (BitVec.ofNat 32 a.val) (BitVec.ofNat 32 (128 * n)) = BitVec.ofNat 32 (128 * n + a.val) from by
    exact (BitVec.ofNat_add ..).symm.trans (congrArg _ (Nat.add_comm ..))]
  have ha := a.isLt
  rw [cmpi_slt_ofNat (by omega) (by omega), show (112#32) = BitVec.ofNat 32 112 from rfl, cmpi_sge_ofNat (by omega) (by omega)]
  rw [show Scalar.cmpi CmpIPredicate.sge (BitVec.ofNat 32 n) 0#32 = 1#1 from by
    show IntOp.cmpi .sge (BitVec.ofNat 32 n) (BitVec.ofNat 32 0) = 1#1
    rw [cmpi_sge_ofNat (by omega) (by omega)]; simp]
  unfold Counts
  by_cases h1 : 128 * n + a.val < tn <;> by_cases h2 : 112 ≤ 128 * n + a.val <;> simp [h1, h2] <;> rfl

/-! ## The two halves of the softplus -/

variable (u : Vec Ideal S136x256 .bf16) (t : IVec S128x256 32) (j : BitVec 32) (z : FVec Ideal S128x256 .f32) (c : FVec Ideal S1x256 .f32)

theorem half_top (a : Fin 128) (y : Fin 256) (zr : ℝ) (hz : z (ix2 a y) = (zr : EReal)) (P : Prop) [Decidable P]
    (hm : counts t j (ix2 a y) = if P then 1#1 else 0#1) :
    halves t j z (ix2 ⟨a.val, by omega⟩ y) = ((if P then sp zr else 0 : ℝ) : EReal) := by
  pointwise [halves, k0_pay46, k0_pay47, k0_pay48]
  have hm' : k0_pay45 rows t j (ix2 a y) = if P then 1#1 else 0#1 := hm
  simp only [Fin.eta, hm', hz, Ideal.absf_def, softplus]
  split <;> rfl

theorem half_low (a : Fin 128) (y : Fin 256) (zr : ℝ) (hz : z (ix2 a y) = (zr : EReal)) (P : Prop) [Decidable P]
    (hm : counts t j (ix2 a y) = if P then 1#1 else 0#1) :
    halves t j z (ix2 ⟨128 + a.val, by omega⟩ y) = 0 := by
  pointwise [halves, k0_pay46, k0_pay47, k0_pay48]
  have hm' : k0_pay45 rows t j (ix2 a y) = if P then 1#1 else 0#1 := hm
  simp only [hm', hz, Ideal.absf_def, softplus]
  split
  · show ((sp zr : ℝ) : EReal) - ((sp zr : ℝ) : EReal) = 0
    rw [← EReal.coe_sub, sub_self, EReal.coe_zero]
  · show (0 : EReal) - 0 = 0
    exact sub_zero _

/-- What the summation matrix holds: ones on and above the diagonal of its first 128 rows and columns, and ones in the
    rows below. -/
def Sums (u : Vec Ideal S136x256 .bf16) : Prop :=
  ∀ (a : Fin 136) (x : Fin 256), x.val < 128 → u (ix2 a x) = if a.val ≤ x.val ∨ 128 ≤ a.val then 1 else 0

theorem sums_apply (hu : Sums u) (a : Fin 136) (y : Fin 256) (f : ℕ → ℝ)
    (h1 : ∀ x : Fin 128, halves t j z (ix2 ⟨x.val, by omega⟩ y) = (f x.val : EReal))
    (h2 : ∀ x : Fin 128, halves t j z (ix2 ⟨128 + x.val, by omega⟩ y) = 0) :
    ∑ x : Fin 256, u (ix2 a x) * halves t j z (ix2 x y) = ∑ x : Fin 128, if a.val ≤ x.val ∨ 128 ≤ a.val then (f x.val : EReal) else 0 := by
  rw [show (∑ x : Fin 256, u (ix2 a x) * halves t j z (ix2 x y)) = ∑ x : Fin (128 + 128), u (ix2 a x) * halves t j z (ix2 x y) from rfl,
    Fin.sum_univ_add, Finset.sum_eq_zero (f := fun x : Fin 128 => u (ix2 a (Fin.natAdd 128 x)) * halves t j z (ix2 (Fin.natAdd 128 x) y)) (fun x _ => by
      rw [show halves t j z (ix2 (Fin.natAdd 128 x) y) = 0 from h2 x, mul_zero]), add_zero]
  refine Finset.sum_congr rfl fun x _ => ?_
  rw [show halves t j z (ix2 (Fin.castAdd 128 x) y) = (f x.val : EReal) from h1 x, hu a (Fin.castAdd 128 x) x.isLt]
  show (if a.val ≤ x.val ∨ 128 ≤ a.val then (1 : EReal) else 0) * _ = _
  split
  · exact one_mul _
  · exact zero_mul _

/-! ## A tile that has rows left -/

section Step

variable (n : ℕ) (hn : n < 65) (hu : Sums u) (zf : Fin 256 → ℕ → ℝ) (tn : Fin 256 → ℕ) (ht : ∀ y, tn y < 8320)
  (htn : ∀ (a : Fin 128) (y : Fin 256), t (ix2 a y) = BitVec.ofNat 32 (tn y))
  (hz : ∀ (a : Fin 128) (y : Fin 256), z (ix2 a y) = (zf y (128 * n + a.val) : EReal))
include hn hu ht htn hz

theorem gr_apply (a : Fin 136) (y : Fin 256) :
    ∑ x : Fin 256, u (ix2 a x) * halves t (BitVec.ofNat 32 n) z (ix2 x y)
      = (C (zf y) (tn y) (128 * n + if a.val < 128 then a.val else 0) (128 * (n + 1)) : EReal) := by
  rw [sums_apply u t _ z hu a y (fun x => S (zf y) (tn y) (128 * n + x))
    (fun x => half_top t _ z x y _ (hz x y) _ (counts_of_nat t n hn x y (tn y) (ht y) (htn x y)))
    (fun x => half_low t _ z x y _ (hz x y) _ (counts_of_nat t n hn x y (tn y) (ht y) (htn x y)))]
  unfold C
  rw [coe_sum]
  by_cases ha : a.val < 128
  · rw [if_pos ha]
    have := sum_tail (fun p => (S (zf y) (tn y) p : EReal)) (128 * n) ⟨a.val, ha⟩
    rw [Nat.mul_add, Nat.mul_one, ← this]
    refine Finset.sum_congr rfl fun x _ => ?_
    have : (a.val ≤ x.val ∨ 128 ≤ a.val) ↔ a.val ≤ x.val := by omega
    simp only [this]
  · rw [if_neg ha, ← sum_tile (fun p => (S (zf y) (tn y) p : EReal)) 128 (128 * n + 0) (128 * (n + 1)) (by omega)]
    refine Finset.sum_congr rfl fun x _ => ?_
    rw [if_pos (Or.inr (by omega)), Nat.add_zero]

variable (hi : ℕ) (hhi : 128 * (n + 1) ≤ hi)
  (hc : ∀ y : Fin 256, c (ix2 0 y) = ((-C (zf y) (tn y) (128 * (n + 1)) hi : ℝ) : EReal))
include hhi hc

theorem rowStep_apply (y : Fin 256) :
    rowStep u t (BitVec.ofNat 32 n) c z (ix2 0 y) = ((-C (zf y) (tn y) (128 * n) hi : ℝ) : EReal) := by
  pointwise [rowStep, k0_pay66, k0_pay60, dot_S136x256_S256x256_S136x256_1_0_0_1_n_n]
  have h := gr_apply u t z n hn hu zf tn ht htn hz 128 y
  refine (congrArg₂ (· - ·) (hc y) h).trans ?_
  show ((-C (zf y) (tn y) (128 * (n + 1)) hi : ℝ) : EReal) - ((C (zf y) (tn y) (128 * n + 0) (128 * (n + 1)) : ℝ) : EReal) = _
  have := C_split (zf y) (tn y) (show 128 * n + 0 ≤ 128 * (n + 1) by omega) hhi
  rw [← EReal.coe_sub]
  rw [show C (zf y) (tn y) (128 * n) hi = C (zf y) (tn y) (128 * n + 0) hi from rfl]
  exact congrArg (fun r : ℝ => (r : EReal)) (by linarith)

theorem weights_apply (a : Fin 128) (y : Fin 256) :
    weights u t (BitVec.ofNat 32 n) c z (ix2 a y) = (A (zf y) (tn y) hi (128 * n + a.val) : EReal) := by
  pointwise [weights, k0_pay65, k0_pay60, dot_S136x256_S256x256_S136x256_1_0_0_1_n_n]
  have h := gr_apply u t z n hn hu zf tn ht htn hz ⟨a.val, by omega⟩ y
  rw [if_pos a.isLt] at h
  rw [counts_of_nat t n hn a y (tn y) (ht y) (htn a y), h, hz a y, hc y, ← EReal.coe_sub, ← EReal.coe_add, Ideal.exp_coe]
  unfold A
  have e : zf y (128 * n + a.val) - C (zf y) (tn y) (128 * n + a.val) (128 * (n + 1)) + -C (zf y) (tn y) (128 * (n + 1)) hi
      = zf y (128 * n + a.val) - C (zf y) (tn y) (128 * n + a.val) hi := by
    have := C_split (zf y) (tn y) (show 128 * n + a.val ≤ 128 * (n + 1) by omega) hhi
    linarith
  rw [e]
  split <;> rfl

end Step

/-! ## A tile that has none left -/

theorem rowStep_neg (hj : j.toInt < 0) (hu : Sums u) (zf : Fin 256 → ℕ → ℝ) (hz : ∀ (a : Fin 128) (y : Fin 256), z (ix2 a y) = (zf y a.val : EReal)) (y : Fin 256) :
    rowStep u t j c z (ix2 0 y) = c (ix2 0 y) := by
  pointwise [rowStep, k0_pay66, k0_pay60, dot_S136x256_S256x256_S136x256_1_0_0_1_n_n]
  have h := sums_apply u t j z hu 128 y (fun _ => 0)
    (fun x => by rw [half_top t j z x y _ (hz x y) False (by rw [counts_of_neg t j hj, if_neg not_false]), if_neg not_false])
    (fun x => half_low t j z x y _ (hz x y) False (by rw [counts_of_neg t j hj, if_neg not_false]))
  refine (congrArg (c (ix2 0 y) - ·) h).trans ?_
  simp only [EReal.coe_zero, ite_self, Finset.sum_const_zero, sub_zero]

theorem weights_neg (hj : j.toInt < 0) (a : Fin 128) (y : Fin 256) : weights u t j c z (ix2 a y) = 0 := by
  pointwise [weights, k0_pay65, k0_pay60, dot_S136x256_S256x256_S136x256_1_0_0_1_n_n]
  rw [counts_of_neg t j hj]; rfl

/-! ## The output tile, the scores and the padded queries -/

theorem outStep_apply (o : FVec Ideal S128x128 .f32) (a : FVec Ideal S128x256 .bf16) (vt : Vec Ideal S1x128x128 .bf16) (d l : Fin 128) :
    outStep o a vt (ix2 d l) = o (ix2 d l) + ∑ x : Fin 128, vt (ix3 0 d x) * a (ix2 x ⟨128 * (d.val / 64) + l.val, by omega⟩) := by
  pointwise [outStep, k0_pay79, dot_S64x128_S128x128_S64x128_1_0_0_1_n_n]
  congr 1
  have hd := d.isLt
  split <;> rename_i h
  · refine Finset.sum_congr rfl fun x _ => ?_
    congr 3; exact Fin.ext (by show l.val = 128 * (d.val / 64) + l.val; omega)
  · refine Finset.sum_congr rfl fun x _ => ?_
    congr 2
    · congr 1; exact Fin.ext (by show 64 + (d.val - 64) = d.val; omega)
    · congr 1; exact Fin.ext (by show 128 + l.val = 128 * (d.val / 64) + l.val; omega)

theorem score_apply (q : FVec Ideal S128x256 .bf16) (kt : Vec Ideal S1x128x128 .bf16) (a : Fin 128) (l : Fin 256) :
    score q kt (ix2 a l) = ∑ x : Fin 128, kt (ix3 0 a x) * q (ix2 x l) := by
  pointwise [score, k0_pay40, dot_S128x128_S128x256_S128x256_1_0_0_1_n_n]

theorem qpad_apply (x : Vec Ideal S1x128x128 .bf16) (d : Fin 128) (l : Fin 256) :
    qpad x (ix2 d l) = if d.val / 64 = l.val / 128 then x (ix3 0 d ⟨l.val % 128, by omega⟩) else 0 := by
  pointwise [qpad, k0_pay7, k0_pay5]
  have hd := d.isLt
  have hl := l.isLt
  rw [show (64#32) = BitVec.ofNat 32 64 from rfl, cmpi_slt_ofNat (by omega) (by omega)]
  by_cases h1 : l.val < 128 <;> by_cases h2 : d.val < 64
  · rw [dif_pos h1, decide_eq_true h2, if_pos (show d.val / 64 = l.val / 128 by omega)]
    show x (ix3 0 d ⟨l.val, _⟩) = _
    congr 2; exact Fin.ext (by show l.val = l.val % 128; omega)
  · rw [dif_pos h1, decide_eq_false h2, if_neg (show ¬d.val / 64 = l.val / 128 by omega)]; rfl
  · rw [dif_neg h1, decide_eq_true h2, if_neg (show ¬d.val / 64 = l.val / 128 by omega)]; rfl
  · rw [dif_neg h1, decide_eq_false h2, if_pos (show d.val / 64 = l.val / 128 by omega)]
    show x (ix3 0 d ⟨l.val - 128, _⟩) = _
    congr 2; exact Fin.ext (by show l.val - 128 = l.val % 128; omega)

end Cert.KernelIdeal.Tile

end
-- ==== Proof.KI.LoopValue.lean ====
/-
  What the loop returns over the extended reals: after `s` trips each running row is minus the sum of the softplus of the
  rows read, each output tile the weighted sum of their values, and the exit word is above −∞ as long as the last query
  tile has rows left, so that the loop runs to its end.
-/
module

public import proofs.«01_k».proof.Proof.KI.TileRead
public import Idealize.ShloMosaic.Lib.Pipeline.ValueKit

@[expose] public section

noncomputable section

namespace Cert.KernelIdeal.LoopValue

open Cert.KernelIdeal Cert.KernelIdeal.Gen Cert.KernelIdeal.Loop Cert.KernelIdeal.Body Cert.KernelIdeal.Tile Cert.Stick
open Idealize.ShloMosaic Idealize.ShloMosaic.TcCoe Idealize.ShloMosaic.WordCmp

/-- The carried output tiles. -/
def outOf (cr : Carry Ideal) : Fin 5 → FVec Ideal S128x128 .f32
  | 0 => cr.2.2.1
  | 1 => cr.2.2.2.1
  | 2 => cr.2.2.2.2.1
  | 3 => cr.2.2.2.2.2.1
  | 4 => cr.2.2.2.2.2.2.1

/-- The carried running rows. -/
def rowOf (cr : Carry Ideal) : Fin 5 → FVec Ideal S1x256 .f32
  | 0 => cr.2.2.2.2.2.2.2.1
  | 1 => cr.2.2.2.2.2.2.2.2.1
  | 2 => cr.2.2.2.2.2.2.2.2.2.1
  | 3 => cr.2.2.2.2.2.2.2.2.2.2.1
  | 4 => cr.2.2.2.2.2.2.2.2.2.2.2

variable (i : grid0.Coords) (qt : Fin 5 → Vec Ideal S1x128x128 .bf16) (u : Vec Ideal S136x256 .bf16) (k : Vec Ideal S1x8320x128 .bf16)
  (v : Vec Ideal S1x128x8320 .bf16)

/-- A query tile's columns. -/
abbrev tc (r : Fin 5) : IVec S128x256 32 := cols (tileOf i (BitVec.ofNat 32 r.val))

section Parts

variable (kt vt : Fin 5 → Vec Ideal S1x128x128 .bf16) (s : BitVec 32) (live : Ideal .f32) (o0 o1 o2 o3 o4 : FVec Ideal S128x128 .f32)
  (c0 c1 c2 c3 c4 : FVec Ideal S1x256 .f32)

theorem row0 : rowOf (tripOf i (envOf i qt u k v) kt vt (s, live, o0, o1, o2, o3, o4, c0, c1, c2, c3, c4)) 0
    = rowStep u (tc i 0) (tileNo i 0#32 s) c0 (score (qpad (qt 0)) (kt 0)) := rfl
theorem row1 : rowOf (tripOf i (envOf i qt u k v) kt vt (s, live, o0, o1, o2, o3, o4, c0, c1, c2, c3, c4)) 1
    = rowStep u (tc i 1) (tileNo i 1#32 s) c1 (score (qpad (qt 1)) (kt 1)) := rfl
theorem row2 : rowOf (tripOf i (envOf i qt u k v) kt vt (s, live, o0, o1, o2, o3, o4, c0, c1, c2, c3, c4)) 2
    = rowStep u (tc i 2) (tileNo i 2#32 s) c2 (score (qpad (qt 2)) (kt 2)) := rfl
theorem row3 : rowOf (tripOf i (envOf i qt u k v) kt vt (s, live, o0, o1, o2, o3, o4, c0, c1, c2, c3, c4)) 3
    = rowStep u (tc i 3) (tileNo i 3#32 s) c3 (score (qpad (qt 3)) (kt 3)) := rfl
theorem row4 : rowOf (tripOf i (envOf i qt u k v) kt vt (s, live, o0, o1, o2, o3, o4, c0, c1, c2, c3, c4)) 4
    = rowStep u (tc i 4) (tileNo i 4#32 s) c4 (score (qpad (qt 4)) (kt 4)) := rfl

theorem out0 : outOf (tripOf i (envOf i qt u k v) kt vt (s, live, o0, o1, o2, o3, o4, c0, c1, c2, c3, c4)) 0
    = outStep o0 (weights u (tc i 0) (tileNo i 0#32 s) c0 (score (qpad (qt 0)) (kt 0))) (vt 0) := rfl
theorem out1 : outOf (tripOf i (envOf i qt u k v) kt vt (s, live, o0, o1, o2, o3, o4, c0, c1, c2, c3, c4)) 1
    = outStep o1 (weights u (tc i 1) (tileNo i 1#32 s) c1 (score (qpad (qt 1)) (kt 1))) (vt 1) := rfl
theorem out2 : outOf (tripOf i (envOf i qt u k v) kt vt (s, live, o0, o1, o2, o3, o4, c0, c1, c2, c3, c4)) 2
    = outStep o2 (weights u (tc i 2) (tileNo i 2#32 s) c2 (score (qpad (qt 2)) (kt 2))) (vt 2) := rfl
theorem out3 : outOf (tripOf i (envOf i qt u k v) kt vt (s, live, o0, o1, o2, o3, o4, c0, c1, c2, c3, c4)) 3
    = outStep o3 (weights u (tc i 3) (tileNo i 3#32 s) c3 (score (qpad (qt 3)) (kt 3))) (vt 3) := rfl
theorem out4 : outOf (tripOf i (envOf i qt u k v) kt vt (s, live, o0, o1, o2, o3, o4, c0, c1, c2, c3, c4)) 4
    = outStep o4 (weights u (tc i 4) (tileNo i 4#32 s) c4 (score (qpad (qt 4)) (kt 4))) (vt 4) := rfl

/-- The exit word a trip returns is the greatest entry of a row that is at least the last query tile's new row, as long
    as that tile has a further key tile to read. -/
theorem live_eq : ∃ l3 : FVec Ideal S1x256 .f32,
    (tripOf i (envOf i qt u k v) kt vt (s, live, o0, o1, o2, o3, o4, c0, c1, c2, c3, c4)).2.1
      = k0_pay4 (maximumf l3 (Scalar.select (Scalar.cmpi .sge (tileNo i 4#32 s) 1#32)
          (rowStep u (tc i 4) (tileNo i 4#32 s) c4 (score (qpad (qt 4)) (kt 4)))
          (broadcast S1x256 (FloatOps.ofBits .f32 0xFF800000#32)))) := ⟨_, rfl⟩

end Parts

variable (cr : Carry Ideal) (h : k0_chk1 i cr.1)

theorem row_trip (r : Fin 5) : rowOf (trip i (envOf i qt u k v) cr h) r
    = rowStep u (tc i r) (tileNo i (BitVec.ofNat 32 r.val) cr.1) (rowOf cr r) (score (qpad (qt r)) (keyTile k i cr.1 h r)) := by
  obtain ⟨s, live, o0, o1, o2, o3, o4, c0, c1, c2, c3, c4⟩ := cr
  match r with
  | 0 => exact row0 ..
  | 1 => exact row1 ..
  | 2 => exact row2 ..
  | 3 => exact row3 ..
  | 4 => exact row4 ..

theorem out_trip (r : Fin 5) : outOf (trip i (envOf i qt u k v) cr h) r
    = outStep (outOf cr r) (weights u (tc i r) (tileNo i (BitVec.ofNat 32 r.val) cr.1) (rowOf cr r) (score (qpad (qt r)) (keyTile k i cr.1 h r)))
        (valTile v i cr.1 h r) := by
  obtain ⟨s, live, o0, o1, o2, o3, o4, c0, c1, c2, c3, c4⟩ := cr
  match r with
  | 0 => exact out0 ..
  | 1 => exact out1 ..
  | 2 => exact out2 ..
  | 3 => exact out3 ..
  | 4 => exact out4 ..

theorem le_pay4 (l : FVec Ideal S1x256 .f32) (y : Fin 256) : l (ix2 0 y) ≤ k0_pay4 l := by
  pointwise [k0_pay4]
  rw [Finset.le_fold_max]
  exact Or.inr ⟨(0, y), Finset.mem_univ _, le_rfl⟩

theorem live_trip (hj : Scalar.cmpi .sge (tileNo i 4#32 cr.1) 1#32 = 1#1) (y : Fin 256) :
    rowOf (trip i (envOf i qt u k v) cr h) 4 (ix2 0 y) ≤ (trip i (envOf i qt u k v) cr h).2.1 := by
  rw [row_trip]
  obtain ⟨s, live, o0, o1, o2, o3, o4, c0, c1, c2, c3, c4⟩ := cr
  obtain ⟨l3, hl⟩ := live_eq i qt u k v (keyTile k i s h) (valTile v i s h) s live o0 o1 o2 o3 o4 c0 c1 c2 c3 c4
  refine le_trans ?_ (le_of_le_of_eq (le_pay4 _ y) hl.symm)
  rw [hj]
  exact le_max_right _ _

/-! ## The tiles a trip reads -/

variable (Q : Fin 5 → Fin 128 → Fin 128 → ℝ) (K : ℕ → Fin 128 → ℝ) (V : Fin 128 → ℕ → EReal)

/-- The score of key row `p` at lane `y` of query tile `r`: over the rows of the lane's head. -/
def Z (r : Fin 5) (y : Fin 256) (p : ℕ) : ℝ :=
  ∑ d : Fin 128, K p d * (if d.val / 64 = y.val / 128 then Q r d ⟨y.val % 128, by omega⟩ else 0)

theorem keyTile_apply (s : ℕ) (hs : s < 65) (w : BitVec 32) (hw : w = BitVec.ofNat 32 s) (h : k0_chk1 i w) (r : Fin 5) (a d : Fin 128) :
    keyTile k i w h r (ix3 0 a d) = k (ix3 0 ⟨128 * ((i 2).val * 5 + r.val - s) + a.val, by
      have h2 : (i 2).val < 13 := (i 2).isLt
      omega⟩ d) := by
  subst hw
  unfold keyTile
  refine View.ld_unit_apply_of _ _ _ _ _ _ fun x => ?_
  refine Eq.trans ?_ (congrArg (· + _) (congrFun (off1_eq i s hs r) x).symm)
  match x with
  | 0 => rfl
  | 1 => rfl
  | 2 => exact (Nat.zero_add _).symm

theorem valTile_apply (s : ℕ) (hs : s < 65) (w : BitVec 32) (hw : w = BitVec.ofNat 32 s) (h : k0_chk1 i w) (r : Fin 5) (d a : Fin 128) :
    valTile v i w h r (ix3 0 d a) = v (ix3 0 d ⟨128 * ((i 2).val * 5 + r.val - s) + a.val, by
      have h2 : (i 2).val < 13 := (i 2).isLt
      omega⟩) := by
  subst hw
  unfold valTile
  refine View.ld_unit_apply_of _ _ _ _ _ _ fun x => ?_
  refine Eq.trans ?_ (congrArg (· + _) (congrFun (off2_eq i s hs r) x).symm)
  match x with
  | 0 => rfl
  | 1 => exact (Nat.zero_add _).symm
  | 2 => rfl

variable (hQ : ∀ r d l, qt r (ix3 0 d l) = (Q r d l : EReal)) (hK : ∀ (p : Fin 8320) d, k (ix3 0 p d) = (K p.val d : EReal))
  (hV : ∀ d (p : Fin 8320), v (ix3 0 d p) = V d p.val)

include hQ hK in
theorem score_tile (s : ℕ) (hs : s < 65) (w : BitVec 32) (hw : w = BitVec.ofNat 32 s) (h : k0_chk1 i w) (r : Fin 5) (a : Fin 128) (y : Fin 256) :
    score (qpad (qt r)) (keyTile k i w h r) (ix2 a y) = (Z Q K r y (128 * ((i 2).val * 5 + r.val - s) + a.val) : EReal) := by
  rw [score_apply, Z, coe_sum]
  refine Finset.sum_congr rfl fun d _ => ?_
  rw [keyTile_apply i k s hs w hw, qpad_apply, hK, EReal.coe_mul]
  congr 1
  split
  · exact hQ ..
  · rfl

/-! ## The invariant -/

/-- The lane of a row of the output tile: its head's half. -/
def lane (d l : Fin 128) : Fin 256 := ⟨128 * (d.val / 64) + l.val, by omega⟩

/-- What holds after `s` trips. -/
structure Inv (s : ℕ) (cr : Carry Ideal) : Prop where
  fst : cr.1 = BitVec.ofNat 32 s
  row : ∀ r y, rowOf cr r (ix2 0 y)
    = ((-C (Z Q K r y) (col i r y) (128 * ((i 2).val * 5 + r.val + 1 - s)) (128 * ((i 2).val * 5 + r.val + 1)) : ℝ) : EReal)
  out : ∀ r d l, outOf cr r (ix2 d l)
    = O (Z Q K r (lane d l)) (col i r (lane d l)) (128 * ((i 2).val * 5 + r.val + 1)) (V d) (128 * ((i 2).val * 5 + r.val + 1 - s))
  live : s ≤ (i 2).val * 5 + 4 → ⊥ < cr.2.1

theorem tileNo_nat (s : ℕ) (r : Fin 5) (h : s ≤ (i 2).val * 5 + r.val) :
    tileNo i (BitVec.ofNat 32 r.val) (BitVec.ofNat 32 s) = BitVec.ofNat 32 ((i 2).val * 5 + r.val - s) := by
  have h2 : (i 2).val < 13 := (i 2).isLt
  have := r.isLt
  apply BitVec.eq_of_toInt_eq
  rw [tileNo_toInt i s (by omega), toInt_ofNat_of_lt (by omega)]
  omega

include hQ hK hV in
theorem inv_step (hu : Sums u) (s : ℕ) (hs : s ≤ (i 2).val * 5 + 4) (hI : Inv i Q K V s cr) :
    Inv i Q K V (s + 1) (trip i (envOf i qt u k v) cr h) := by
  have h2 : (i 2).val < 13 := (i 2).isLt
  have h65 : s < 65 := by omega
  have hc := hI.fst
  have hrow : ∀ r y, rowOf (trip i (envOf i qt u k v) cr h) r (ix2 0 y)
    = ((-C (Z Q K r y) (col i r y) (128 * ((i 2).val * 5 + r.val + 1 - (s + 1))) (128 * ((i 2).val * 5 + r.val + 1)) : ℝ) : EReal) := by
    intro r y
    rw [row_trip]
    by_cases hr : s ≤ (i 2).val * 5 + r.val
    · rw [show (i 2).val * 5 + r.val + 1 - (s + 1) = (i 2).val * 5 + r.val - s by omega]
      rw [show tileNo i (BitVec.ofNat 32 r.val) cr.1 = BitVec.ofNat 32 ((i 2).val * 5 + r.val - s) from by rw [hc]; exact tileNo_nat i s r hr]
      refine rowStep_apply u (tc i r) _ (rowOf cr r) _ (by omega) hu (Z Q K r) (col i r) (col_lt i r) (cols_apply i r) (fun a y => ?_)
        (128 * ((i 2).val * 5 + r.val + 1)) (by omega) (fun y => ?_) y
      · exact score_tile i qt k Q K hQ hK s h65 _ hc h r a y
      · rw [hI.row, show (i 2).val * 5 + r.val + 1 - s = (i 2).val * 5 + r.val - s + 1 by omega]
    · rw [rowStep_neg u (tc i r) _ _ (rowOf cr r) (by rw [hc, tileNo_toInt i s h65]; omega) hu (Z Q K r) (fun a y => ?_) y, hI.row]
      · rw [show (i 2).val * 5 + r.val + 1 - (s + 1) = (i 2).val * 5 + r.val + 1 - s by omega]
      · rw [score_tile i qt k Q K hQ hK s h65 _ hc h r a y, show (i 2).val * 5 + r.val - s = 0 by omega, Nat.mul_zero, Nat.zero_add]
  refine ⟨?_, hrow, ?_, ?_⟩
  · rw [trip_fst, hc, addi_one]
  · intro r d l
    rw [out_trip, outStep_apply, hI.out]
    by_cases hr : s ≤ (i 2).val * 5 + r.val
    · rw [show (i 2).val * 5 + r.val + 1 - (s + 1) = (i 2).val * 5 + r.val - s by omega]
      rw [show (i 2).val * 5 + r.val + 1 - s = (i 2).val * 5 + r.val - s + 1 by omega]
      rw [← O_split (Z Q K r (lane d l)) (col i r (lane d l)) (128 * ((i 2).val * 5 + r.val + 1)) (V d)
        (show 128 * ((i 2).val * 5 + r.val - s) ≤ 128 * ((i 2).val * 5 + r.val - s + 1) by omega) (by omega)]
      rw [add_comm]
      congr 1
      rw [← sum_tile (fun p => V d p * (A (Z Q K r (lane d l)) (col i r (lane d l)) (128 * ((i 2).val * 5 + r.val + 1)) p : EReal)) 128
        (128 * ((i 2).val * 5 + r.val - s)) (128 * ((i 2).val * 5 + r.val - s + 1)) (by omega)]
      refine Finset.sum_congr rfl fun x _ => ?_
      congr 1
      · rw [valTile_apply i v s h65 _ hc h, hV]
      · rw [show tileNo i (BitVec.ofNat 32 r.val) cr.1 = BitVec.ofNat 32 ((i 2).val * 5 + r.val - s) from by rw [hc]; exact tileNo_nat i s r hr]
        refine weights_apply u (tc i r) _ (rowOf cr r) _ (by omega) hu (Z Q K r) (col i r) (col_lt i r) (cols_apply i r) (fun a y => ?_)
          (128 * ((i 2).val * 5 + r.val + 1)) (by omega) (fun y => ?_) x (lane d l)
        · exact score_tile i qt k Q K hQ hK s h65 _ hc h r a y
        · rw [hI.row, show (i 2).val * 5 + r.val + 1 - s = (i 2).val * 5 + r.val - s + 1 by omega]
    · rw [show (i 2).val * 5 + r.val + 1 - (s + 1) = (i 2).val * 5 + r.val + 1 - s by omega]
      rw [Finset.sum_eq_zero fun x _ => ?_, add_zero]
      rw [weights_neg u (tc i r) _ _ (rowOf cr r) (by rw [hc, tileNo_toInt i s h65]; omega), mul_zero]
  · intro hs'
    refine lt_of_lt_of_le ?_ (live_trip i qt u k v cr h ?_ 0)
    · rw [hrow]; exact EReal.bot_lt_coe _
    · rw [hc]
      rw [show tileNo i 4#32 (BitVec.ofNat 32 s) = BitVec.ofNat 32 ((i 2).val * 5 + 4 - s) from tileNo_nat i s 4 (by show s ≤ _ + 4; omega)]
      show IntOp.cmpi .sge _ (BitVec.ofNat 32 1) = _
      rw [cmpi_sge_ofNat (by omega) (by omega), decide_eq_true (by omega)]; rfl

theorem goes_of (s : ℕ) (hs : s ≤ (i 2).val * 5 + 4) (live : Ideal .f32) (hl : (⊥ : EReal) < live) : goes i (BitVec.ofNat 32 s) live = 1#1 := by
  unfold goes
  rw [test_eq i s (by omega), if_pos hs]
  rw [show Named.named (F := Ideal) κ "exit" (φ := .f32) 0xC2D20000#32 = ⊥ from IdealRules.named_const.ideal_named_scalar _ _ _ _ rfl]
  rw [show Scalar.cmpf .ogt live (⊥ : EReal) = 1#1 from by
    show BitVec.ofBool (decide ((⊥ : EReal) < live)) = 1#1
    rw [decide_eq_true hl]; rfl]
  rfl

include hQ hK hV in
theorem inv_loop (hu : Sums u) : ∀ (n s : ℕ) (cr : Carry Ideal), s + n = (i 2).val * 5 + 5 → Inv i Q K V s cr →
    Inv i Q K V ((i 2).val * 5 + 5) (loop i (envOf i qt u k v) n cr)
  | 0, s, cr, hs, hI => by
    rw [loop]
    obtain rfl : s = (i 2).val * 5 + 5 := hs
    exact hI
  | n + 1, s, cr, hs, hI => by
    have hle : s ≤ (i 2).val * 5 + 4 := by omega
    have hck : k0_chk1 i cr.1 := by rw [hI.fst]; exact chk_of_le i s hle
    rw [loop, if_pos (by rw [hI.fst]; exact goes_of i s hle _ (hI.live hle)), dif_pos hck]
    exact inv_loop hu n (s + 1) _ (by omega) (inv_step i qt u k v cr hck Q K V hQ hK hV hu s hle hI)

theorem zero_word : (FloatOps.ofBits (F := Ideal) .f32 0x00000000#32) = (0 : EReal) := Ideal.ofBits_zero_f32

theorem inv_start : Inv i Q K V 0 start := by
  refine ⟨rfl, fun r y => ?_, fun r d l => ?_, fun _ => ?_⟩
  · rw [Nat.sub_zero, show rowOf start r (ix2 0 y) = (0 : EReal) from by
      match r with
      | 0 => exact zero_word
      | 1 => exact zero_word
      | 2 => exact zero_word
      | 3 => exact zero_word
      | 4 => exact zero_word]
    unfold C; rw [Finset.Ico_self, Finset.sum_empty, neg_zero]; rfl
  · rw [Nat.sub_zero, show outOf start r (ix2 d l) = (0 : EReal) from by
      match r with
      | 0 => exact zero_word
      | 1 => exact zero_word
      | 2 => exact zero_word
      | 3 => exact zero_word
      | 4 => exact zero_word]
    unfold O; rw [Finset.Ico_self, Finset.sum_empty]
  · show (⊥ : EReal) < FloatOps.ofBits (F := Ideal) .f32 0x00000000#32
    rw [zero_word]; exact EReal.bot_lt_zero

include hQ hK hV in
/-- What the loop leaves in the output tiles: the weighted sums over all rows up to the tile's last column. -/
theorem out_loop (hu : Sums u) (r : Fin 5) (d l : Fin 128) :
    outOf (loop i (envOf i qt u k v) ((i 2).val * 5 + 5) start) r (ix2 d l)
      = O (Z Q K r (lane d l)) (col i r (lane d l)) (128 * ((i 2).val * 5 + r.val + 1)) (V d) 0 := by
  have hI := (inv_loop i qt u k v Q K V hQ hK hV hu _ 0 start (Nat.zero_add _) (inv_start i Q K V)).out r d l
  have := r.isLt
  rw [hI, show (i 2).val * 5 + r.val + 1 - ((i 2).val * 5 + 5) = 0 by omega, Nat.mul_zero]

end Cert.KernelIdeal.LoopValue

end
-- ==== Proof.KI.Result.lean ====
/-
  The call's result as a function of its four arguments, element by element: stick-breaking attention over the columns
  past the padding, each head's 64 rows divided by their root mean square and scaled by the gain.
-/
module

public import proofs.«01_k».proof.Proof.KI.Math
public import Idealize.ShloMosaic.Lib.ValueIdx

@[expose] public section

noncomputable section

namespace Cert.Stick

open Idealize.ShloMosaic

/-- An array of rank 3 at any three numbers, zero outside it. -/
def tot3 {n₀ n₁ n₂ : ℕ} (X : (⟨3, ![n₀, n₁, n₂]⟩ : Shape).Idx → EReal) (a b c : ℕ) : EReal :=
  if h : a < n₀ ∧ b < n₁ ∧ c < n₂ then X (ix3 ⟨a, h.1⟩ ⟨b, h.2.1⟩ ⟨c, h.2.2⟩) else 0

theorem tot3_eq {n₀ n₁ n₂ : ℕ} (X : (⟨3, ![n₀, n₁, n₂]⟩ : Shape).Idx → EReal) (a : Fin n₀) (b : Fin n₁) (c : Fin n₂) :
    tot3 X a.val b.val c.val = X (ix3 a b c) := dif_pos ⟨a.isLt, b.isLt, c.isLt⟩

/-- The real number it holds there. -/
def re3 {n₀ n₁ n₂ : ℕ} (X : (⟨3, ![n₀, n₁, n₂]⟩ : Shape).Idx → EReal) (a b c : ℕ) : ℝ := (tot3 X a b c).toReal

/-- Every element is a real number. -/
def Real3 {n₀ n₁ n₂ : ℕ} (X : (⟨3, ![n₀, n₁, n₂]⟩ : Shape).Idx → EReal) : Prop :=
  ∀ (a : Fin n₀) (b : Fin n₁) (c : Fin n₂), X (ix3 a b c) ≠ ⊤ ∧ X (ix3 a b c) ≠ ⊥

theorem re3_eq {n₀ n₁ n₂ : ℕ} (X : (⟨3, ![n₀, n₁, n₂]⟩ : Shape).Idx → EReal) (hX : Real3 X) (a : Fin n₀) (b : Fin n₁) (c : Fin n₂) :
    X (ix3 a b c) = (re3 X a.val b.val c.val : EReal) := by
  unfold re3
  rw [tot3_eq, EReal.coe_toReal (hX a b c).1 (hX a b c).2]

/-- A vector of 512 at any number, zero outside it. -/
def tot1 (X : (⟨1, ![512]⟩ : Shape).Idx → EReal) (a : ℕ) : EReal := if h : a < 512 then X (ix1 ⟨a, h⟩) else 0

theorem tot1_eq (X : (⟨1, ![512]⟩ : Shape).Idx → EReal) (a : Fin 512) : tot1 X a.val = X (ix1 a) := dif_pos a.isLt

variable (q v : (⟨3, ![8, 512, 8320]⟩ : Shape).Idx → EReal) (k : (⟨3, ![8, 8320, 512]⟩ : Shape).Idx → EReal) (g : (⟨1, ![512]⟩ : Shape).Idx → EReal)

/-- The score of key column `p` against query column `t` of head `h`. -/
def Zg (b h t p : ℕ) : ℝ := ∑ d : Fin 64, re3 k b p (64 * h + d.val) * re3 q b (64 * h + d.val) t

/-- The attention's output at row `D` of the 512 and column `t`. -/
def Og (b D t : ℕ) : EReal := O (Zg q k b (D / 64) t) t 8320 (fun p => tot3 v b D p) 0

/-- The result: the output over its head's root mean square, times the gain. -/
def res (b D t : ℕ) : EReal :=
  Og q v k b D t * Ideal.rsqrt (Ideal.div (∑ x : Fin 64, Og q v k b (64 * (D / 64) + x.val) t * Og q v k b (64 * (D / 64) + x.val) t)
    (Ideal.ofBits FTy.f32 1115684864#32) + Ideal.ofBits FTy.f32 897988541#32) * tot1 g D

/-- The result array. -/
def G : (⟨3, ![8, 512, 8320]⟩ : Shape).Idx → EReal := fun i => res q v k g (i 0).val (i 1).val (i 2).val

/-- A sum over the 128 rows of two heads that keeps one head's rows. -/
theorem sum_head (f g : ℕ → ℝ) (a : ℕ) (ha : a < 2) :
    ∑ d : Fin 128, f d.val * (if d.val / 64 = a then g d.val else 0) = ∑ x : Fin 64, f (64 * a + x.val) * g (64 * a + x.val) := by
  rw [show (∑ d : Fin 128, f d.val * (if d.val / 64 = a then g d.val else 0))
    = ∑ d : Fin (64 + 64), f d.val * (if d.val / 64 = a then g d.val else 0) from rfl, Fin.sum_univ_add]
  simp only [Fin.val_castAdd, Fin.val_natAdd]
  rcases (show a = 0 ∨ a = 1 by omega) with rfl | rfl
  · rw [Finset.sum_eq_zero (s := Finset.univ) (f := fun i : Fin 64 => f (64 + i.val) * (if (64 + i.val) / 64 = 0 then g (64 + i.val) else 0))
      (fun i _ => by rw [if_neg (by omega), mul_zero]), add_zero]
    refine Finset.sum_congr rfl fun x _ => ?_
    rw [if_pos (by omega), Nat.mul_zero, Nat.zero_add]
  · rw [Finset.sum_eq_zero (s := Finset.univ) (f := fun i : Fin 64 => f i.val * (if i.val / 64 = 1 then g i.val else 0))
      (fun i _ => by rw [if_neg (by omega), mul_zero]), zero_add]
    refine Finset.sum_congr rfl fun x _ => ?_
    rw [if_pos (by omega), Nat.mul_one]

end Cert.Stick

end
-- ==== Proof.KI.Lit.lean ====
/-
  The summation matrix, entry by entry: ones on and above the diagonal of its first 128 rows and columns, and ones in the
  rows below.
-/
module

public import proofs.«01_k».proof.KernelIdeal
public import Idealize.ShloMosaic.Lib.Pointwise

@[expose] public section

namespace Cert.KernelIdeal.Block

open Cert.KernelIdeal Idealize.ShloMosaic

theorem lit_word : ∀ (a : Fin 136) (x : Fin 128), lit0 (S136x256.rowMajor (ix2 a (⟨x.val, by omega⟩ : Fin 256)))
    = if a.val ≤ x.val ∨ 128 ≤ a.val then 0x3F80#16 else 0#16 := by
  decide +kernel

end Cert.KernelIdeal.Block
-- ==== Proof.KI.Block.lean ====
/-
  The result array of the idealized kernel: each grid point's block is its part of one function of the whole arguments.
-/
module

public import proofs.«01_k».proof.Proof.KI.LoopValue
public import proofs.«01_k».proof.Proof.KI.Result
public import proofs.«01_k».proof.Proof.KI.Run
public import proofs.«01_k».proof.Proof.KI.Lit
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Cert.KernelIdeal.Launch Cert.KernelIdeal.Loop Cert.KernelIdeal.Body Cert.KernelIdeal.Run
open Cert.KernelIdeal.Tile Cert.KernelIdeal.LoopValue Cert.Stick
open Idealize.ShloMosaic Idealize.ShloMosaic.TcCoe

/-! ## The norm of a tile -/

/-- An output tile over its two heads' root mean squares, times the gain. -/
def finish (o : FVec Ideal S128x128 .f32) (g : Vec Ideal S128x128 .f32) : FVec Ideal S1x128x128 .f32 := k0_pay32 (k0_pay31 o g)

theorem f1_eq (o : FVec Ideal S128x128 .f32) (g : Vec Ideal S128x128 .f32) : k0_pay33 o (k0_pay30 g) = finish o g := rfl
theorem f2_eq (o : FVec Ideal S128x128 .f32) (g : Vec Ideal S128x128 .f32) : k0_pay36 o (k0_pay30 g) (k0_pay34 o) (k0_pay35 o) = finish o g := rfl
theorem f3_eq (o : FVec Ideal S128x128 .f32) (g : Vec Ideal S128x128 .f32) : k0_pay37 o (k0_pay30 g) = finish o g := rfl
theorem f4_eq (o : FVec Ideal S128x128 .f32) (g : Vec Ideal S128x128 .f32) : k0_pay1 o (k0_pay30 g) (k0_pay38 o) = finish o g := rfl

theorem finish_apply (o : FVec Ideal S128x128 .f32) (g : Vec Ideal S128x128 .f32) (d l : Fin 128) :
    finish o g (ix3 0 d l) = o (ix2 d l) * Ideal.rsqrt (Ideal.div (∑ x : Fin 64,
        o (ix2 ⟨64 * (d.val / 64) + x.val, by omega⟩ l) * o (ix2 ⟨64 * (d.val / 64) + x.val, by omega⟩ l))
      (Ideal.ofBits FTy.f32 1115684864#32) + Ideal.ofBits FTy.f32 897988541#32) * g (ix2 d l) := by
  pointwise [finish, k0_pay32, k0_pay31, k0_pay30]
  have hd := d.isLt
  congr 4
  split <;> rename_i h
  · congr 1
    refine Finset.sum_congr rfl fun x _ => ?_
    rw [show (⟨64 * (d.val / 64) + x.val, by omega⟩ : Fin 128) = ⟨x.val, by omega⟩ from Fin.ext (by show 64 * (d.val / 64) + x.val = x.val; omega)]
  · congr 1
    refine Finset.sum_congr rfl fun x _ => ?_
    rw [show (⟨64 * (d.val / 64) + x.val, by omega⟩ : Fin 128) = ⟨64 + x.val, by omega⟩ from Fin.ext (by show 64 * (d.val / 64) + x.val = 64 + x.val; omega)]

/-! ## The blocks -/

theorem idx0 : ∀ t : Fin grid0.N, win0_0.index t = ![(grid0.coords t 0).val, (grid0.coords t 1).val, (grid0.coords t 2).val] := by decide +kernel
theorem idx1 : ∀ t : Fin grid0.N, win0_1.index t = ![(grid0.coords t 0).val, 0, (grid0.coords t 1).val] := by decide +kernel
theorem idx2 : ∀ t : Fin grid0.N, win0_2.index t = ![(grid0.coords t 0).val, (grid0.coords t 1).val, 0] := by decide +kernel
theorem idx3 : ∀ t : Fin grid0.N, win0_3.index t = ![0, 0] := by decide +kernel
theorem idx4 : ∀ t : Fin grid0.N, win0_4.index t = ![(grid0.coords t 1).val, 0] := by decide +kernel
theorem idx5 : ∀ t : Fin grid0.N, win0_5.index t = ![(grid0.coords t 0).val, (grid0.coords t 1).val, (grid0.coords t 2).val] := by decide +kernel

variable (m : (ℓ : Loc nD τ sig) → Buf (Elt Ideal) ℓ) (c : Dev nD)

/-- The four arguments. -/
abbrev argQ : (⟨3, ![8, 512, 8320]⟩ : Shape).Idx → EReal := m ((c : Thread nD τ).loc main_arg0)
abbrev argK : (⟨3, ![8, 8320, 512]⟩ : Shape).Idx → EReal := m ((c : Thread nD τ).loc main_arg1)
abbrev argV : (⟨3, ![8, 512, 8320]⟩ : Shape).Idx → EReal := m ((c : Thread nD τ).loc main_arg2)
abbrev argG : (⟨1, ![512]⟩ : Shape).Idx → EReal := m ((c : Thread nD τ).loc main_arg3)

variable (t : Fin (cfg0 (F := Ideal)).N)

/-- The point's batch, pair of heads and group of query tiles. -/
abbrev bt : ℕ := (grid0.coords t 0).val
abbrev pr : ℕ := (grid0.coords t 1).val
abbrev gp : ℕ := (grid0.coords t 2).val

theorem bt_lt : bt t < 8 := (grid0.coords t 0).isLt
theorem pr_lt : pr t < 4 := (grid0.coords t 1).isLt
theorem gp_lt : gp t < 13 := (grid0.coords t 2).isLt

theorem blkQ (d : Fin 128) (l : Fin 640) : iblk m c 0 t (ix3 0 d l)
    = argQ m c (ix3 ⟨bt t, bt_lt t⟩ ⟨128 * pr t + d.val, by have := pr_lt t; omega⟩ ⟨640 * gp t + l.val, by have := gp_lt t; omega⟩) := by
  have h0 := bt_lt t; have h1 := pr_lt t; have h2 := gp_lt t
  blk_simp [iblk]
  rw [V_main_arg0]
  blk_ext! [idx0 t]
  all_goals (simp only [bt, pr, gp]; omega)

theorem blkK (p : Fin 8320) (d : Fin 128) : iblk m c 1 t (ix3 0 p d)
    = argK m c (ix3 ⟨bt t, bt_lt t⟩ p ⟨128 * pr t + d.val, by have := pr_lt t; omega⟩) := by
  have h0 := bt_lt t; have h1 := pr_lt t; have h2 := gp_lt t
  blk_simp [iblk]
  rw [V_main_arg1]
  blk_ext! [idx1 t]
  all_goals (simp only [bt, pr, gp]; omega)

theorem blkV (d : Fin 128) (p : Fin 8320) : iblk m c 2 t (ix3 0 d p)
    = argV m c (ix3 ⟨bt t, bt_lt t⟩ ⟨128 * pr t + d.val, by have := pr_lt t; omega⟩ p) := by
  have h0 := bt_lt t; have h1 := pr_lt t; have h2 := gp_lt t
  blk_simp [iblk]
  rw [V_main_arg2]
  blk_ext! [idx2 t]
  all_goals (simp only [bt, pr, gp]; omega)

theorem blkU (a : Fin 136) (x : Fin 256) : iblk m c 3 t (ix2 a x) = Ideal.ofBits .bf16 (lit0 (S136x256.rowMajor (ix2 a x))) := by
  blk_simp [iblk]
  entry_read
  show Ideal.ofBits .bf16 (lit0 (S136x256.rowMajor _)) = _
  congr 3
  blk_ext [idx3 t]

theorem blkG (d l : Fin 128) : iblk m c 4 t (ix2 d l) = argG m c (ix1 ⟨128 * pr t + d.val, by have := pr_lt t; omega⟩) := by
  have h1 := pr_lt t
  blk_simp [iblk]
  entry_read
  pointwise
  blk_ext! [idx4 t]
  all_goals (simp only [bt, pr, gp]; omega)

/-! ## The loop's inputs at a point -/

theorem one_word : Ideal.ofBits .bf16 0x3F80#16 = 1 := by
  simp [Ideal.ofBits, Ideal.ieee, -EReal.coe_mul]
  norm_num

theorem sums : Sums (uTile (iblk m c 3 t)) := by
  intro a x hx
  rw [show uTile (iblk m c 3 t) (ix2 a x) = iblk m c 3 t (ix2 a x) from congrFun (View.ld_unit_lit _ _ (by decide)) _, blkU]
  rw [show lit0 (S136x256.rowMajor (ix2 a x)) = _ from lit_word a ⟨x.val, hx⟩]
  show Ideal.ofBits .bf16 (if a.val ≤ x.val ∨ 128 ≤ a.val then 0x3F80#16 else 0#16) = _
  split
  · exact one_word
  · exact Ideal.ofBits_zero_bf16

/-- The point's scores and values, as numbers. -/
def Qp (r : Fin 5) (d l : Fin 128) : ℝ := re3 (argQ m c) (bt t) (128 * pr t + d.val) (640 * gp t + 128 * r.val + l.val)
def Kp (p : ℕ) (d : Fin 128) : ℝ := re3 (argK m c) (bt t) p (128 * pr t + d.val)
def Vp (d : Fin 128) (p : ℕ) : EReal := tot3 (argV m c) (bt t) (128 * pr t + d.val) p

variable (hQ : Real3 (argQ m c)) (hK : Real3 (argK m c))

theorem qTile_apply (x0 : Vec Ideal S1x128x640 .bf16) (r : Fin 5) (d l : Fin 128) :
    qTile x0 r (ix3 0 d l) = x0 (ix3 0 d ⟨128 * r.val + l.val, by omega⟩) := by
  match r with
  | 0 => exact View.ld_unit_apply_of _ _ _ _ _ _ fun x => match x with | 0 => rfl | 1 => (Nat.zero_add _).symm | 2 => rfl
  | 1 => exact View.ld_unit_apply_of _ _ _ _ _ _ fun x => match x with | 0 => rfl | 1 => (Nat.zero_add _).symm | 2 => rfl
  | 2 => exact View.ld_unit_apply_of _ _ _ _ _ _ fun x => match x with | 0 => rfl | 1 => (Nat.zero_add _).symm | 2 => rfl
  | 3 => exact View.ld_unit_apply_of _ _ _ _ _ _ fun x => match x with | 0 => rfl | 1 => (Nat.zero_add _).symm | 2 => rfl
  | 4 => exact View.ld_unit_apply_of _ _ _ _ _ _ fun x => match x with | 0 => rfl | 1 => (Nat.zero_add _).symm | 2 => rfl

include hQ in
theorem q_real (r : Fin 5) (d l : Fin 128) : qTile (iblk m c 0 t) r (ix3 0 d l) = (Qp m c t r d l : EReal) := by
  have h2 := gp_lt t
  rw [qTile_apply, blkQ, re3_eq _ hQ, Qp]
  simp only [Nat.add_assoc]

include hK in
theorem k_real (p : Fin 8320) (d : Fin 128) : iblk m c 1 t (ix3 0 p d) = (Kp m c t p.val d : EReal) := by
  rw [blkK, re3_eq _ hK, Kp]

theorem v_tot (d : Fin 128) (p : Fin 8320) : iblk m c 2 t (ix3 0 d p) = Vp m c t d p.val := by
  rw [blkV]; exact (tot3_eq (argV m c) _ _ _).symm

/-- What the loop returns at the point. -/
abbrev ret : Carry Ideal := done (grid0.coords t) (iblk m c 0 t) (iblk m c 1 t) (iblk m c 2 t) (iblk m c 3 t)

theorem lane_mod (d l : Fin 128) : (lane d l).val % 128 = l.val := by
  show (128 * (d.val / 64) + l.val) % 128 = l.val; omega
theorem lane_div (d l : Fin 128) : (lane d l).val / 128 = d.val / 64 := by
  show (128 * (d.val / 64) + l.val) / 128 = d.val / 64; omega

theorem Z_point (r : Fin 5) (d l : Fin 128) : Z (Qp m c t) (Kp m c t) r (lane d l)
    = Zg (argQ m c) (argK m c) (bt t) ((128 * pr t + d.val) / 64) (640 * gp t + 128 * r.val + l.val) := by
  funext p
  unfold Z Zg
  have e := lane_div d l
  have e' := lane_mod d l
  have hd := d.isLt
  have := sum_head (fun d' => re3 (argK m c) (bt t) p (128 * pr t + d')) (fun d' => re3 (argQ m c) (bt t) (128 * pr t + d') (640 * gp t + 128 * r.val + l.val))
    (d.val / 64) (by omega)
  simp only [e, e', Kp, Qp]
  refine this.trans (Finset.sum_congr rfl fun x _ => ?_)
  rw [show 128 * pr t + (64 * (d.val / 64) + x.val) = 64 * ((128 * pr t + d.val) / 64) + x.val by omega]

include hQ hK in
theorem out_point (r : Fin 5) (d l : Fin 128) : outOf (ret m c t) r (ix2 d l)
    = Og (argQ m c) (argV m c) (argK m c) (bt t) (128 * pr t + d.val) (640 * gp t + 128 * r.val + l.val) := by
  have h := out_loop (grid0.coords t) (qTile (iblk m c 0 t)) (uTile (iblk m c 3 t)) (iblk m c 1 t) (iblk m c 2 t) (Qp m c t) (Kp m c t) (Vp m c t)
    (q_real m c t hQ) (k_real m c t hK) (v_tot m c t) (sums m c t) r d l
  refine h.trans ?_
  have h2 := gp_lt t
  have e : col (grid0.coords t) r (lane d l) = 640 * gp t + 128 * r.val + l.val := by
    unfold col; rw [lane_mod]; show 128 * (gp t * 5 + r.val) + l.val = _; omega
  rw [Z_point, e]
  unfold Og
  refine O_to _ _ _ ?_ ?_
  · show 640 * gp t + 128 * r.val + l.val ≤ 128 * (gp t * 5 + r.val + 1); omega
  · show 128 * (gp t * 5 + r.val + 1) ≤ 8320; omega

include hQ hK in
theorem finish_point (r : Fin 5) (d l : Fin 128) : finish (outOf (ret m c t) r) (iblk m c 4 t) (ix3 0 d l)
    = res (argQ m c) (argV m c) (argK m c) (argG m c) (bt t) (128 * pr t + d.val) (640 * gp t + 128 * r.val + l.val) := by
  have h1 := pr_lt t
  have hd := d.isLt
  rw [finish_apply, blkG, ← tot1_eq (argG m c)]
  simp only [out_point m c t hQ hK]
  unfold res
  rw [show 64 * ((128 * pr t + d.val) / 64) = 128 * pr t + 64 * (d.val / 64) by omega]
  simp only [Nat.add_assoc]

/-! ## The array -/

/-- The result array. -/
abbrev result : (⟨3, ![8, 512, 8320]⟩ : Shape).Idx → EReal := G (argQ m c) (argV m c) (argK m c) (argG m c)

theorem result_apply (i : (⟨3, ![8, 512, 8320]⟩ : Shape).Idx) (b D x : ℕ) (h0 : (i 0).val = b) (h1 : (i 1).val = D) (h2 : (i 2).val = x) :
    result m c i = res (argQ m c) (argV m c) (argK m c) (argG m c) b D x := by
  subst h0 h1 h2; rfl

theorem piece_at (off : Fin 3 → ℕ) (inb) (r : Fin 5) (hoff : off = ![0, 0, 128 * r.val]) (P : FVec Ideal S1x128x128 .f32)
    (hP : ∀ d l, P (ix3 0 d l) = res (argQ m c) (argV m c) (argK m c) (argG m c) (bt t) (128 * pr t + d.val) (640 * gp t + 128 * r.val + l.val))
    (a : Fin 1) (d l : Fin 128) :
    P (ix3 a d l) = result m c ((win0_5.blk t).view.emb ((Rect.unit (s := S1x128x640) off S1x128x128.size inb).emb (ix3 a d l))) := by
  subst hoff
  obtain rfl : a = 0 := Subsingleton.elim _ _
  refine (hP d l).trans (result_apply m c _ _ _ _ ?_ ?_ ?_).symm
  · blk_simp [idx5 t]; simp only [bt]; omega
  · blk_simp [idx5 t]; simp only [pr]; omega
  · blk_simp [idx5 t]; simp only [gp]; omega

/-- A tile's place in the result's block. -/
theorem piece_point (off : Fin 3 → ℕ) (inb) (r : Fin 5) (hoff : off = ![0, 0, 128 * r.val]) (P : FVec Ideal S1x128x128 .f32)
    (hP : ∀ d l, P (ix3 0 d l) = res (argQ m c) (argV m c) (argK m c) (argG m c) (bt t) (128 * pr t + d.val) (640 * gp t + 128 * r.val + l.val))
    (j : S1x128x128.Idx) :
    P j = result m c ((win0_5.blk t).view.emb ((Rect.unit (s := S1x128x640) off S1x128x128.size inb).emb j)) := by
  rw [eq_ix3 j]
  exact piece_at m c t off inb r hoff P hP (j 0) (j 1) (j 2)

/-- What the body's load of the gain reads. -/
def gRead (arg7 : Memref sig .tc .vmem S128x128 .f32) (f : arg7.view.ty.Contents (Elt Ideal)) : Vec Ideal S128x128 .f32 :=
  arg7.view.readAt (Elt Ideal) (Rect.unit (s := S128x128) ![0, 0] S128x128.size inb_S128x128_S128x128_0_0).toLoadRect f

theorem gRead_unread (arg7 : Memref sig .tc .vmem S128x128 .f32) (harg7 : arg7.IsWhole) (x4 : Vec Ideal S128x128 .f32) :
    gRead arg7 (harg7.unread x4) = x4 := by
  rw [show gRead arg7 (harg7.unread x4) = View.ld (Val := Elt Ideal) (arg7.view.read (Elt Ideal) (harg7.unread x4))
    (Rect.unit (s := S128x128) ![0, 0] S128x128.size inb_S128x128_S128x128_0_0) from rfl, harg7.read_unread]
  exact View.ld_unit_lit _ _ (by decide)

/-- The gain at the point, as the body loads it. -/
abbrev gainAt : Vec Ideal S128x128 .f32 := gRead (ms0_4 (F := Ideal) t) ((hs0_4 (F := Ideal) t).unread (iblk m c 4 t))

include hQ hK in
theorem finish_gain (r : Fin 5) (d l : Fin 128) : finish (outOf (ret m c t) r) (gainAt m c t) (ix3 0 d l)
    = res (argQ m c) (argV m c) (argK m c) (argG m c) (bt t) (128 * pr t + d.val) (640 * gp t + 128 * r.val + l.val) := by
  rw [show gainAt m c t = iblk m c 4 t from gRead_unread _ _ _]
  exact finish_point m c t hQ hK r d l

include hQ hK in
/-- The result array after the run. -/
theorem final : (dats m 0 c).arrAt 5 (cfg0 (F := Ideal)).N = result m c := by
  refine (dats m 0 c).arrAt_eq_of_covers 5 _ (by decide +kernel) fun t hf y => ?_
  blk_simp
  rw [after0_5]
  unfold outsAt out5
  rw [View.read_writes_eq_canon _ _ _ (cover5 c _ _ _ _ _ _ _ _ _ _ _ _ _ _ _ _ _ _)]
  refine View.canon_apply_of_pieces (Val := Elt Ideal) (e := .f32) (fun y => result m c (((win0_5.blk t).view.emb y))) _ (fun p hp j => ?_) y (cover5 c _ _ _ _ _ _ _ _ _ _ _ _ _ _ _ _ _ _ _)
  unfold bodyRun at hp
  dsimp only at hp
  simp only [List.mem_cons, List.mem_nil_iff, or_false] at hp
  rcases hp with rfl | rfl | rfl | rfl | rfl
  · exact piece_point m c t ![0, 0, 512] inb_S1x128x640_S1x128x128_0_0_512 4 rfl (finish (outOf (ret m c t) 4) (gainAt m c t)) (finish_gain m c t hQ hK 4) j
  · exact piece_point m c t ![0, 0, 384] inb_S1x128x640_S1x128x128_0_0_384 3 rfl (finish (outOf (ret m c t) 3) (gainAt m c t)) (finish_gain m c t hQ hK 3) j
  · exact piece_point m c t ![0, 0, 256] inb_S1x128x640_S1x128x128_0_0_256 2 rfl (finish (outOf (ret m c t) 2) (gainAt m c t)) (finish_gain m c t hQ hK 2) j
  · exact piece_point m c t ![0, 0, 128] inb_S1x128x640_S1x128x128_0_0_128 1 rfl (finish (outOf (ret m c t) 1) (gainAt m c t)) (finish_gain m c t hQ hK 1) j
  · exact piece_point m c t ![0, 0, 0] inb_S1x128x640_S1x128x128_0_0_0 0 rfl (finish (outOf (ret m c t) 0) (gainAt m c t)) (finish_gain m c t hQ hK 0) j

end Cert.KernelIdeal.Block

end
-- ==== Proof.RI.Scores.lean ====
/-
  The reference's arrays up to its weights, element by element: the arguments read past the padding, the scores, the
  softplus of the scores that count, its sums from each key column on, and the weights.
-/
module

public import proofs.«01_k».proof.Proof.KI.Result
public import proofs.«01_k».proof.Proof.Gen.ReferenceIdeal.Read
public import Idealize.ShloMosaic.Lib.WordCmp

@[expose] public section

set_option maxHeartbeats 400000

noncomputable section

namespace Cert.ReferenceIdeal.Scores

open Idealize.ShloMosaic Cert.ReferenceIdeal Cert.ReferenceIdeal.Gen Cert.ReferenceIdeal.Read Cert.Stick

theorem tot3_at {n₀ n₁ n₂ : ℕ} (X : (⟨3, ![n₀, n₁, n₂]⟩ : Shape).Idx → EReal) (i : (⟨3, ![n₀, n₁, n₂]⟩ : Shape).Idx) {a b c : ℕ}
    (ha : (i 0).val = a) (hb : (i 1).val = b) (hc : (i 2).val = c) : X i = tot3 X a b c := by
  subst ha hb hc
  conv_lhs => rw [eq_ix3 i]
  exact (tot3_eq X (i 0) (i 1) (i 2)).symm

section
variable (x0 x2 : S8x512x8320.Idx → EReal) (x1 : S8x8320x512.Idx → EReal)

theorem q_read (i : S8x8x64x8208.Idx) :
    val_main_v2 (F := Ideal) x0 i = tot3 x0 (i 0).val (64 * (i 1).val + (i 2).val) (112 + (i 3).val) := by
  rw [val_main_v2_apply, val_main_v1_apply]
  show val_main_v0 (F := Ideal) x0 _ = _
  rw [val_main_v0_apply]
  have h0 : (i 0).val < 8 := (i 0).isLt
  have h1 : (i 1).val < 8 := (i 1).isLt
  have h2 : (i 2).val < 64 := (i 2).isLt
  have h3 : (i 3).val < 8208 := (i 3).isLt
  refine tot3_at x0 _ ?_ ?_ ?_
  · show ((((i 0).val * 8 + (i 1).val) * 64 + (i 2).val) * 8208 + (i 3).val) / 4202496 = _
    omega
  · show ((((i 0).val * 8 + (i 1).val) * 64 + (i 2).val) * 8208 + (i 3).val) / 8208 % 512 = _
    omega
  · show 112 + ((((i 0).val * 8 + (i 1).val) * 64 + (i 2).val) * 8208 + (i 3).val) % 8208 = _
    omega

theorem v_read (i : S8x8x64x8208.Idx) :
    val_main_v8 (F := Ideal) x2 i = tot3 x2 (i 0).val (64 * (i 1).val + (i 2).val) (112 + (i 3).val) := by
  rw [val_main_v8_apply, val_main_v7_apply]
  show val_main_v6 (F := Ideal) x2 _ = _
  rw [val_main_v6_apply]
  have h0 : (i 0).val < 8 := (i 0).isLt
  have h1 : (i 1).val < 8 := (i 1).isLt
  have h2 : (i 2).val < 64 := (i 2).isLt
  have h3 : (i 3).val < 8208 := (i 3).isLt
  refine tot3_at x2 _ ?_ ?_ ?_
  · show ((((i 0).val * 8 + (i 1).val) * 64 + (i 2).val) * 8208 + (i 3).val) / 4202496 = _
    omega
  · show ((((i 0).val * 8 + (i 1).val) * 64 + (i 2).val) * 8208 + (i 3).val) / 8208 % 512 = _
    omega
  · show 112 + ((((i 0).val * 8 + (i 1).val) * 64 + (i 2).val) * 8208 + (i 3).val) % 8208 = _
    omega

theorem k_read (i : S8x8208x8x64.Idx) :
    val_main_v5 (F := Ideal) x1 i = tot3 x1 (i 0).val (112 + (i 1).val) (64 * (i 2).val + (i 3).val) := by
  rw [val_main_v5_apply, val_main_v4_apply]
  show val_main_v3 (F := Ideal) x1 _ = _
  rw [val_main_v3_apply]
  have h0 : (i 0).val < 8 := (i 0).isLt
  have h1 : (i 1).val < 8208 := (i 1).isLt
  have h2 : (i 2).val < 8 := (i 2).isLt
  have h3 : (i 3).val < 64 := (i 3).isLt
  refine tot3_at x1 _ ?_ ?_ ?_
  · show ((((i 0).val * 8208 + (i 1).val) * 8 + (i 2).val) * 64 + (i 3).val) / 4202496 = _
    omega
  · show 112 + ((((i 0).val * 8208 + (i 1).val) * 8 + (i 2).val) * 64 + (i 3).val) / 512 % 8208 = _
    omega
  · show ((((i 0).val * 8208 + (i 1).val) * 8 + (i 2).val) * 64 + (i 3).val) % 512 = _
    omega

theorem tot3_re {n₀ n₁ n₂ : ℕ} (X : (⟨3, ![n₀, n₁, n₂]⟩ : Shape).Idx → EReal) (hX : Real3 X) {a b c : ℕ} (ha : a < n₀) (hb : b < n₁)
    (hc : c < n₂) : tot3 X a b c = (re3 X a b c : EReal) := by
  rw [← re3_eq X hX ⟨a, ha⟩ ⟨b, hb⟩ ⟨c, hc⟩]
  exact tot3_eq X ⟨a, ha⟩ ⟨b, hb⟩ ⟨c, hc⟩

/-- The scores of the query column an index names. -/
def Zi (i : S8x8x8208x8208.Idx) : ℕ → ℝ := Zg x0 x1 (i 0).val (i 1).val (112 + (i 2).val)

/-- The score at an index. -/
def zi (i : S8x8x8208x8208.Idx) : ℝ := Zi x0 x1 i (112 + (i 3).val)

theorem score (h0 : Real3 x0) (h1 : Real3 x1) (i : S8x8x8208x8208.Idx) : val_main_v9 (F := Ideal) x0 x1 i = (zi x0 x1 i : EReal) := by
  rw [val_main_v9_apply]
  unfold zi Zi Zg
  rw [coe_sum]
  refine Finset.sum_congr rfl fun d _ => ?_
  rw [q_read, k_read]
  have b0 : (i 0).val < 8 := (i 0).isLt
  have b1 : (i 1).val < 8 := (i 1).isLt
  have b2 : (i 2).val < 8208 := (i 2).isLt
  have b3 : (i 3).val < 8208 := (i 3).isLt
  have bd := d.isLt
  show tot3 x0 (i 0).val (64 * (i 1).val + d.val) (112 + (i 2).val) * tot3 x1 (i 0).val (112 + (i 3).val) (64 * (i 1).val + d.val) = _
  rw [tot3_re x0 h0 b0 (by omega) (by omega), tot3_re x1 h1 b0 (by omega) (by omega), ← EReal.coe_mul, mul_comm]

theorem mask (i : S8208x8208.Idx) : val_main_v16 (F := Ideal) i = BitVec.ofBool (decide ((i 1).val < (i 0).val)) := by
  rw [val_main_v16_apply, val_main_v14_apply, val_main_v11_apply, val_main_v10_apply, val_main_v15_apply, val_main_v13_apply,
    val_main_v12_apply]
  have b0 : (i 0).val < 8208 := (i 0).isLt
  have b1 : (i 1).val < 8208 := (i 1).isLt
  show IntOp.cmpi .slt (BitVec.ofNat 32 (i 1).val) (BitVec.ofNat 32 (i 0).val) = _
  rw [WordCmp.cmpi_slt_ofNat (by omega) (by omega)]

/-- The host's softplus of a real number. -/
theorem host_softplus (x : ℝ) :
    Scalar.select (FloatOps.cmpf (F := Ideal) (φ := .f32) .une ((x : EReal) - 0) ((x : EReal) - 0)) ((x : EReal) + 0)
      (max (x : EReal) 0 + Ideal.log1p (Ideal.exp (-(max ((x : EReal) - 0) (-((x : EReal) - 0)))))) = (sp x : EReal) := by
  have hz : FloatOps.cmpf (F := Ideal) (φ := .f32) .une ((x : EReal) - 0) ((x : EReal) - 0) = 0#1 := by
    rw [Ideal.cmpf_def]
    show BitVec.ofBool (decide (_ ≠ _)) = _
    simp
  rw [hz]
  show max (x : EReal) 0 + Ideal.log (1 + Ideal.exp (-(max ((x : EReal) - 0) (-((x : EReal) - 0))))) = _
  rw [sub_zero, ← zero_sub, softplus]

theorem soft0 (i : S8x8x8208x8208.Idx) (x : ℝ) (hx : val_main_call0_v0 (F := Ideal) x0 x1 i = (x : EReal)) :
    val_main_call0_v1 (F := Ideal) x0 x1 i = (sp x : EReal) := by
  simp only [val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, hx]
  rw [show FloatOps.ofBits (F := Ideal) .f32 0x00000000#32 = (0 : EReal) from Ideal.ofBits_zero_f32]
  exact host_softplus x

theorem soft3 (i : S8x8x8208x8208.Idx) (x : ℝ) (hx : val_main_call3_v0 (F := Ideal) x0 x1 i = (x : EReal)) :
    val_main_call3_v1 (F := Ideal) x0 x1 i = (sp x : EReal) := by
  simp only [val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, hx]
  rw [show FloatOps.ofBits (F := Ideal) .f32 0x00000000#32 = (0 : EReal) from Ideal.ofBits_zero_f32]
  exact host_softplus x

variable (h0 : Real3 x0) (h1 : Real3 x1)
include h0 h1

/-- The logarithm of one minus the weight of a score. -/
theorem log_rest (i : S8x8x8208x8208.Idx) : val_main_v18 (F := Ideal) x0 x1 i = ((-sp (zi x0 x1 i) : ℝ) : EReal) := by
  rw [val_main_v18_apply, soft0 x0 x1 i (zi x0 x1 i)]
  · exact (EReal.coe_neg _).symm
  · rw [val_main_call0_v0_apply, val_main_v17_apply, score x0 x1 h0 h1]
    exact neg_neg _

/-- The logarithm of the weight of a score. -/
theorem log_own (i : S8x8x8208x8208.Idx) : val_main_v22 (F := Ideal) x0 x1 i = ((zi x0 x1 i - sp (zi x0 x1 i) : ℝ) : EReal) := by
  rw [val_main_v22_apply, soft3 x0 x1 i (-zi x0 x1 i), ← sp_neg]
  · exact (EReal.coe_neg _).symm
  · rw [val_main_call3_v0_apply, score x0 x1 h0 h1]
    exact (EReal.coe_neg _).symm

theorem rests (i : S8x8x8208x8208.Idx) :
    val_main_v19 (F := Ideal) x0 x1 i = ((-S (Zi x0 x1 i) (112 + (i 2).val) (112 + (i 3).val) : ℝ) : EReal) := by
  rw [val_main_v19_apply, log_rest x0 x1 h0 h1, val_main_call1_v1_apply, mask, val_main_call1_v2_apply, val_main_call1_v0_apply, val_main_cst_apply]
  rw [show FloatOps.ofBits (F := Ideal) .f32 0x00000000#32 = (0 : EReal) from Ideal.ofBits_zero_f32]
  show Scalar.select (BitVec.ofBool (decide ((i 3).val < (i 2).val))) _ _ = _
  unfold S
  by_cases h : (i 3).val < (i 2).val
  · rw [if_pos (show Counts _ _ from ⟨by omega, by omega⟩), decide_eq_true h]
    rfl
  · rw [if_neg (show ¬ Counts _ _ from fun hc => h (by have := hc.2; omega)), decide_eq_false h, neg_zero]
    rfl

end

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The shape of the window. -/
abbrev W : Shape := ⟨4, ![1, 1, 1, 8208]⟩

theorem W_numel : W.numel = 8208 := by
  unfold Shape.numel
  rw [Fin.prod_univ_four]
  rfl

theorem W_last (n : Fin W.numel) : (W.rowMajor.symm n 0).val = 0 ∧ (W.rowMajor.symm n 1).val = 0 ∧ (W.rowMajor.symm n 2).val = 0
    ∧ (W.rowMajor.symm n 3).val = n.val := by
  have b0 : (W.rowMajor.symm n 0).val < 1 := (W.rowMajor.symm n 0).isLt
  have b1 : (W.rowMajor.symm n 1).val < 1 := (W.rowMajor.symm n 1).isLt
  have b2 : (W.rowMajor.symm n 2).val < 1 := (W.rowMajor.symm n 2).isLt
  have h := Shape.rowMajor_val_four (W.rowMajor.symm n)
  rw [Equiv.apply_symm_apply] at h
  refine ⟨by omega, by omega, by omega, ?_⟩
  rw [h]
  have e0 : (W.rowMajor.symm n 0).val = 0 := by omega
  have e1 : (W.rowMajor.symm n 1).val = 0 := by omega
  have e2 : (W.rowMajor.symm n 2).val = 0 := by omega
  rw [e0, e1, e2]
  omega

/-- Where position `n` of the window at index `i` falls on axis `a`. -/
def place {s t : Shape} (window strides lo hi : Fin s.rank → Nat) (h : s.ReduceWindows window strides lo hi t) (i : t.Idx)
    (n : Fin (⟨s.rank, window⟩ : Shape).numel) (a : Fin s.rank) : ℕ :=
  (i (a.cast h.1.symm)).val * strides a + ((⟨s.rank, window⟩ : Shape).rowMajor.symm n a).val

/-- The window sum at an index is the sum of its positions' terms. -/
theorem window_terms {s t : Shape} (window strides lo hi : Fin s.rank → Nat) (h : s.ReduceWindows window strides lo hi t) (x : s.Idx → EReal)
    (i : t.Idx) (g : ℕ → EReal)
    (hg : ∀ n (hin : ∀ a, lo a ≤ place window strides lo hi h i n a ∧ place window strides lo hi h i n a - lo a < s.size a),
      x (fun a => ⟨place window strides lo hi h i n a - lo a, (hin a).2⟩) = g n.val)
    (hn : ∀ n, (¬ ∀ a, lo a ≤ place window strides lo hi h i n a ∧ place window strides lo hi h i n a - lo a < s.size a) → g n.val = 0) :
    Ideal.hostReduceWindowAdd window strides lo hi h x 0 i = ∑ n ∈ Finset.range (⟨s.rank, window⟩ : Shape).numel, g n := by
  unfold Ideal.hostReduceWindowAdd Host.reduceWindow
  refine (foldl_add _ _ _).trans ?_
  rw [zero_add, ← Fin.sum_univ_def, Finset.sum_range]
  refine Finset.sum_congr rfl fun n _ => ?_
  by_cases hin : ∀ a, lo a ≤ place window strides lo hi h i n a ∧ place window strides lo hi h i n a - lo a < s.size a
  · rw [← hg n hin]
    exact dif_pos hin
  · rw [hn n hin]
    exact dif_neg hin

/-- A window of 8208 from each position on, the positions past the end adding nothing: the sum of the row's tail. -/
theorem window (x : S8x8x8208x8208.Idx → EReal) (h : S8x8x8208x8208.ReduceWindows ![1, 1, 1, 8208] ![1, 1, 1, 1] ![0, 0, 0, 0] ![0, 0, 0, 8207] S8x8x8208x8208)
    (i : S8x8x8208x8208.Idx) (f : ℕ → EReal)
    (hf : ∀ j : S8x8x8208x8208.Idx, (j 0).val = (i 0).val → (j 1).val = (i 1).val → (j 2).val = (i 2).val → x j = f (112 + (j 3).val)) :
    Ideal.hostReduceWindowAdd ![1, 1, 1, 8208] ![1, 1, 1, 1] ![0, 0, 0, 0] ![0, 0, 0, 8207] h x 0 i
      = ∑ p ∈ Finset.Ico (112 + (i 3).val) 8320, f p := by
  have b0 : (i 0).val < 8 := (i 0).isLt
  have b1 : (i 1).val < 8 := (i 1).isLt
  have b2 : (i 2).val < 8208 := (i 2).isLt
  have b3 : (i 3).val < 8208 := (i 3).isLt
  refine (window_terms _ _ _ _ h x i (fun n : ℕ => if (i 3).val + n < 8208 then f (112 + (i 3).val + n) else 0) ?_ ?_).trans ?_
  · intro n hin
    obtain ⟨e0, e1, e2, e3⟩ := W_last n
    have hc : (i 3).val * 1 + (W.rowMajor.symm n 3).val - 0 < 8208 := (hin 3).2
    rw [hf _ (show (i 0).val * 1 + (W.rowMajor.symm n 0).val - 0 = _ by omega)
      (show (i 1).val * 1 + (W.rowMajor.symm n 1).val - 0 = _ by omega) (show (i 2).val * 1 + (W.rowMajor.symm n 2).val - 0 = _ by omega)]
    show f (112 + ((i 3).val * 1 + (W.rowMajor.symm n 3).val - 0)) = if (i 3).val + n.val < 8208 then _ else 0
    rw [if_pos (by omega), e3]
    exact congrArg f (by omega)
  · intro n hin
    obtain ⟨e0, e1, e2, e3⟩ := W_last n
    refine if_neg fun hc => hin fun a => ?_
    fin_cases a
    · show 0 ≤ _ ∧ (i 0).val * 1 + (W.rowMajor.symm n 0).val - 0 < 8
      omega
    · show 0 ≤ _ ∧ (i 1).val * 1 + (W.rowMajor.symm n 1).val - 0 < 8
      omega
    · show 0 ≤ _ ∧ (i 2).val * 1 + (W.rowMajor.symm n 2).val - 0 < 8208
      omega
    · show 0 ≤ _ ∧ (i 3).val * 1 + (W.rowMajor.symm n 3).val - 0 < 8208
      omega
  rw [show (⟨S8x8x8208x8208.rank, ![1, 1, 1, 8208]⟩ : Shape).numel = 8208 from W_numel, Finset.sum_Ico_eq_sum_range,
    ← Finset.sum_subset (s₁ := Finset.range (8320 - (112 + (i 3).val)))]
  · refine Finset.sum_congr rfl fun n hn => ?_
    rw [if_pos (by have := Finset.mem_range.1 hn; omega)]
  · intro n hn
    have := Finset.mem_range.1 hn
    exact Finset.mem_range.2 (by omega)
  · intro n _ hn
    have : ¬ n < 8320 - (112 + (i 3).val) := fun h => hn (Finset.mem_range.2 h)
    rw [if_neg (by omega)]

section
variable (x0 x2 : S8x512x8320.Idx → EReal) (x1 : S8x8320x512.Idx → EReal) (h0 : Real3 x0) (h1 : Real3 x1)
include h0 h1

theorem tails (i : S8x8x8208x8208.Idx) :
    val_main_v20 (F := Ideal) x0 x1 i = ((-C (Zi x0 x1 i) (112 + (i 2).val) (112 + (i 3).val) 8320 : ℝ) : EReal) := by
  unfold val_main_v20 Host.reduceWindowAdd
  rw [Ideal.hostReduceWindowAdd_def, val_main_call2_v0_apply, val_main_call2_cst_apply]
  rw [show FloatOps.ofBits (F := Ideal) .f32 0x00000000#32 = (0 : EReal) from Ideal.ofBits_zero_f32]
  rw [window _ _ i (fun p => ((-S (Zi x0 x1 i) (112 + (i 2).val) p : ℝ) : EReal))]
  · rw [← coe_sum, Finset.sum_neg_distrib]
    rfl
  · intro j e0 e1 e2
    rw [rests x0 x1 h0 h1]
    unfold Zi
    rw [e0, e1, e2]

/-- The weights. -/
theorem weights (i : S8x8x8208x8208.Idx) :
    val_main_v25 (F := Ideal) x0 x1 i = (A (Zi x0 x1 i) (112 + (i 2).val) 8320 (112 + (i 3).val) : EReal) := by
  rw [val_main_v25_apply, val_main_v24_apply, val_main_v23_apply, val_main_v21_apply, tails x0 x1 h0 h1, rests x0 x1 h0 h1, log_own x0 x1 h0 h1,
    val_main_call4_v1_apply, mask, val_main_call4_v2_apply, val_main_call4_v0_apply, val_main_cst_0_apply]
  rw [show FloatOps.ofBits (F := Ideal) .f32 0x00000000#32 = (0 : EReal) from Ideal.ofBits_zero_f32]
  show Scalar.select (BitVec.ofBool (decide ((i 3).val < (i 2).val))) (Ideal.exp (((zi x0 x1 i - sp (zi x0 x1 i) : ℝ) : EReal)
    + (((-C (Zi x0 x1 i) (112 + (i 2).val) (112 + (i 3).val) 8320 : ℝ) : EReal) - ((-S (Zi x0 x1 i) (112 + (i 2).val) (112 + (i 3).val) : ℝ) : EReal)))) 0 = _
  unfold A
  by_cases h : (i 3).val < (i 2).val
  · have hc : Counts (112 + (i 2).val) (112 + (i 3).val) := ⟨by omega, by omega⟩
    rw [if_pos hc, decide_eq_true h]
    rw [show ∀ a b : EReal, Scalar.select (BitVec.ofBool true) a b = a from fun _ _ => rfl, ← EReal.coe_sub, ← EReal.coe_add, Ideal.exp_coe]
    unfold S
    rw [if_pos hc]
    refine congrArg (fun r : ℝ => ((Real.exp r : ℝ) : EReal)) ?_
    unfold zi
    ring
  · rw [if_neg (show ¬ Counts _ _ from fun hc => h (by have := hc.2; omega)), decide_eq_false h]
    rfl

end

end Cert.ReferenceIdeal.Scores

end
-- ==== Proof.RI.Value.lean ====
/-
  The reference's result, element by element: each head's output, its norm and gain, and the zero columns of the padding.
-/
module

public import proofs.«01_k».proof.Proof.RI.Scores
public import Idealize.ShloMosaic.Lib.KernelVsHost

@[expose] public section

set_option maxHeartbeats 400000

noncomputable section

namespace Cert.ReferenceIdeal.Scores

open Idealize.ShloMosaic Cert.ReferenceIdeal Cert.ReferenceIdeal.Gen Cert.ReferenceIdeal.Read Cert.Stick

theorem O_past (Z : ℕ → ℝ) (t : ℕ) (V : ℕ → EReal) : O Z t 8320 V 0 = ∑ s : Fin 8208, V (112 + s.val) * (A Z t 8320 (112 + s.val) : EReal) := by
  rw [sum_tile (fun p => V p * (A Z t 8320 p : EReal)) 8208 112 8320 rfl]
  unfold O
  rw [← Finset.sum_Ico_consecutive _ (Nat.zero_le 112) (show 112 ≤ 8320 by omega), Finset.sum_eq_zero (s := Finset.Ico 0 112) (fun p hp => ?_), zero_add]
  rw [A_below Z t 8320 p (Finset.mem_Ico.1 hp).2, EReal.coe_zero, mul_zero]

/-- A column of the padding has no rows that count. -/
theorem O_pad (Z : ℕ → ℝ) (t : ℕ) (V : ℕ → EReal) (h : t < 112) : O Z t 8320 V 0 = 0 :=
  Finset.sum_eq_zero fun p _ => by
    rw [show A Z t 8320 p = 0 from if_neg fun hc => absurd (hc.1.trans hc.2.le) (not_le.2 h), EReal.coe_zero, mul_zero]

theorem tot1_at (X : (⟨1, ![512]⟩ : Shape).Idx → EReal) (i : (⟨1, ![512]⟩ : Shape).Idx) {a : ℕ} (ha : (i 0).val = a) : X i = tot1 X a := by
  subst ha
  conv_lhs => rw [eq_ix1 i]
  exact (tot1_eq X (i 0)).symm

variable (x0 x2 : S8x512x8320.Idx → EReal) (x1 : S8x8320x512.Idx → EReal) (x3 : S512.Idx → EReal)

theorem gain (i : S8x8x64x8208.Idx) : val_main_v39 (F := Ideal) x3 i = tot1 x3 (64 * (i 1).val + (i 2).val) := by
  rw [val_main_v39_apply, val_main_v38_apply, val_main_v27_apply]
  refine tot1_at x3 _ ?_
  show ((i 1).val * 64 + (i 2).val) * 1 + 0 = _
  omega

variable (h0 : Real3 x0) (h1 : Real3 x1)
include h0 h1

/-- A head's output. -/
theorem out (i : S8x8x64x8208.Idx) :
    val_main_v26 (F := Ideal) x0 x1 x2 i = Og x0 x2 x1 (i 0).val (64 * (i 1).val + (i 2).val) (112 + (i 3).val) := by
  have b2 : (i 2).val < 64 := (i 2).isLt
  rw [val_main_v26_apply]
  unfold Og
  rw [O_past, show (64 * (i 1).val + (i 2).val) / 64 = (i 1).val by omega]
  refine Finset.sum_congr rfl fun s _ => ?_
  rw [v_read, weights x0 x1 h0 h1]
  rfl

/-- The reciprocal root mean square of a head's column. -/
theorem norm (i : S8x8x64x8208.Idx) : val_main_v36 (F := Ideal) x0 x1 x2 i
    = Ideal.rsqrt (Ideal.div (∑ x : Fin 64, Og x0 x2 x1 (i 0).val (64 * (i 1).val + x.val) (112 + (i 3).val) * Og x0 x2 x1 (i 0).val (64 * (i 1).val + x.val) (112 + (i 3).val))
      (Ideal.ofBits FTy.f32 1115684864#32) + Ideal.ofBits FTy.f32 897988541#32) := by
  rw [val_main_v36_apply, val_main_v35_apply, val_main_v34_apply, val_main_v32_apply, val_main_v30_apply, val_main_v29_apply, val_main_cst_1_apply,
    val_main_v31_apply, val_main_cst_2_apply, val_main_v33_apply, val_main_cst_3_apply]
  rw [show FloatOps.ofBits (F := Ideal) .f32 0x00000000#32 = (0 : EReal) from Ideal.ofBits_zero_f32, zero_add]
  show Ideal.rsqrt (Ideal.div (∑ x : Fin 64, _) _ + _) = _
  refine congrArg (fun e => Ideal.rsqrt (Ideal.div e (Ideal.ofBits FTy.f32 1115684864#32) + Ideal.ofBits FTy.f32 897988541#32)) ?_
  refine Finset.sum_congr rfl fun x _ => ?_
  rw [val_main_v28_apply, out x0 x2 x1 h0 h1]
  rfl

theorem normed (i : S8x8x64x8208.Idx) :
    val_main_v40 (F := Ideal) x0 x1 x2 x3 i = res x0 x2 x1 x3 (i 0).val (64 * (i 1).val + (i 2).val) (112 + (i 3).val) := by
  have b2 : (i 2).val < 64 := (i 2).isLt
  rw [val_main_v40_apply, val_main_v37_apply, out x0 x2 x1 h0 h1, norm x0 x2 x1 h0 h1, gain]
  unfold res
  rw [show (64 * (i 1).val + (i 2).val) / 64 = (i 1).val by omega]
  rfl

theorem past (i : S8x512x8208.Idx) :
    val_main_v41 (F := Ideal) x0 x1 x2 x3 i = res x0 x2 x1 x3 (i 0).val (i 1).val (112 + (i 2).val) := by
  have b0 : (i 0).val < 8 := (i 0).isLt
  have b1 : (i 1).val < 512 := (i 1).isLt
  have b2 : (i 2).val < 8208 := (i 2).isLt
  rw [val_main_v41_apply, normed x0 x2 x1 x3 h0 h1]
  have e0 : (((i 0).val * 512 + (i 1).val) * 8208 + (i 2).val) / 4202496 = (i 0).val := by omega
  have e1 : 64 * ((((i 0).val * 512 + (i 1).val) * 8208 + (i 2).val) / 525312 % 8)
    + ((((i 0).val * 512 + (i 1).val) * 8208 + (i 2).val) / 8208 % 64) = (i 1).val := by omega
  have e2 : (((i 0).val * 512 + (i 1).val) * 8208 + (i 2).val) % 8208 = (i 2).val := by omega
  show res x0 x2 x1 x3 ((((i 0).val * 512 + (i 1).val) * 8208 + (i 2).val) / 4202496) (64 * ((((i 0).val * 512 + (i 1).val) * 8208 + (i 2).val) / 525312 % 8)
    + ((((i 0).val * 512 + (i 1).val) * 8208 + (i 2).val) / 8208 % 64)) (112 + (((i 0).val * 512 + (i 1).val) * 8208 + (i 2).val) % 8208) = _
  rw [e0, e1, e2]

/-- The reference's result. -/
theorem final : val_main_v42 (F := Ideal) x0 x1 x2 x3 = G x0 x2 x1 x3 := by
  funext i
  unfold val_main_v42 G
  have b0 : (i 0).val < 8 := (i 0).isLt
  have b1 : (i 1).val < 512 := (i 1).isLt
  have b2 : (i 2).val < 8320 := (i 2).isLt
  by_cases h : 112 ≤ (i 2).val
  · rw [pad_apply_of_inside _ _ _ _ _ _ _ i (ix3 (⟨(i 0).val, b0⟩ : Fin 8) (⟨(i 1).val, b1⟩ : Fin 512) (⟨(i 2).val - 112, by omega⟩ : Fin 8208)) ?_]
    · rw [past x0 x2 x1 x3 h0 h1]
      show res x0 x2 x1 x3 (i 0).val (i 1).val (112 + ((i 2).val - 112)) = _
      rw [Nat.add_sub_cancel' h]
    · intro a
      fin_cases a
      · show (i 0).val = 0 + (i 0).val * 1
        omega
      · show (i 1).val = 0 + (i 1).val * 1
        omega
      · show (i 2).val = 112 + ((i 2).val - 112) * 1
        omega
  · rw [pad_apply_of_not_inside _ _ _ _ _ _ _ i 2 (fun hc => h hc.1)]
    unfold res Og
    rw [O_pad _ _ _ (not_le.1 h), zero_mul, zero_mul, val_main_call5_v0_apply, val_main_c_apply]
    show _ = (0 : EReal)
    exact (congrArg (fun z : ℤ => ((z : ℝ) : EReal)) (show (0#32 : BitVec 32).toInt = 0 from rfl)).trans (by rw [Int.cast_zero, EReal.coe_zero])

end Cert.ReferenceIdeal.Scores

end
-- ==== Proof.Finite.lean ====
/-
  The precondition read: every query and every key is a real number.
-/
module

public import proofs.«01_k».proof.Defs
public import proofs.«01_k».proof.Proof.KI.Result
public import Idealize.ShloMosaic.Lib.Pointwise

@[expose] public section

set_option maxHeartbeats 400000

noncomputable section

namespace Cert.Finite

open Idealize.ShloMosaic Cert.Stick Cert.Pre_finite_queries_and_keys

theorem facts : Cert.Pre_finite_queries_and_keys.Facts := ⟨by decide, by decide⟩

/-- The word of the bound is infinity. -/
theorem bound : Ideal.ofBits .bf16 0x7F80#16 = ⊤ := by
  simp [Ideal.ofBits, Ideal.ieee]

/-- A number whose magnitude lies below infinity is real. -/
theorem real_of_lt (x : EReal) (h : FloatOps.cmpf (F := Ideal) (φ := .bf16) .olt (max x (-x)) ⊤ = 1#1) : x ≠ ⊤ ∧ x ≠ ⊥ := by
  have h' : BitVec.ofBool (decide (max x (-x) < ⊤)) = 1#1 := h
  have hlt : max x (-x) < ⊤ := by
    by_contra hn
    rw [decide_eq_false hn] at h'
    exact absurd h' (by decide)
  refine ⟨fun e => ?_, fun e => ?_⟩
  · rw [e, max_eq_left le_top] at hlt
    exact lt_irrefl _ hlt
  · rw [e, EReal.neg_bot, max_eq_right le_top] at hlt
    exact lt_irrefl _ hlt

theorem and_one (a b : BitVec 1) (h : a &&& b = 1#1) : a = 1#1 ∧ b = 1#1 := by
  revert a b; decide

theorem reals [hF : Cert.Pre_finite_queries_and_keys.Facts] (q v : S8x512x8320.Idx → EReal) (k : S8x8320x512.Idx → EReal) (g : S512.Idx → EReal)
    (h : fn (F := Ideal) q k v g = fun _ => 1#1) : Real3 q ∧ Real3 k := by
  have key : ∀ (a : Fin 8) (b : Fin 512) (c : Fin 8320), (q (ix3 a b c) ≠ ⊤ ∧ q (ix3 a b c) ≠ ⊥) ∧ (k (ix3 a c b) ≠ ⊤ ∧ k (ix3 a c b) ≠ ⊥) := by
    intro a b c
    have e := congrFun h (ix3 a b c)
    unfold fn at e
    simp only [pointwise] at e
    obtain ⟨e0, e1⟩ := and_one _ _ e
    rw [bound] at e0 e1
    exact ⟨real_of_lt _ e0, real_of_lt _ e1⟩
  exact ⟨fun a b c => (key a b c).1, fun a b c => (key a c b).2⟩

end Cert.Finite

end
-- ==== Proof.In.Spec.lean ====
/-
  The numbers of the input projection: the normed rows, their products with the columns of the weights, and the
  eight results read off them. Numbers are extended reals and no element is asked to be finite.
-/
module

public import Idealize.ShloMosaic.Lib.Pointwise

@[expose] public section

noncomputable section

namespace Cert.Proj

open Idealize.ShloMosaic

section

variable (x : (⟨3, ![8, 8320, 1024]⟩ : Shape).Idx → EReal) (g : (⟨1, ![1024]⟩ : Shape).Idx → EReal)
  (w : (⟨2, ![1024, 3088]⟩ : Shape).Idx → EReal) (u : (⟨2, ![16, 256]⟩ : Shape).Idx → EReal) (b : (⟨1, ![256]⟩ : Shape).Idx → EReal)

/-- A row over its root mean square, times the gain. -/
def hn (n : Fin 8) (s : Fin 8320) (d : Fin 1024) : EReal :=
  x (ix3 n s d) * Ideal.rsqrt (Ideal.div (∑ e : Fin 1024, x (ix3 n s e) * x (ix3 n s e)) (Ideal.ofBits FTy.f32 0x44800000#32)
    + Ideal.ofBits FTy.f32 0x358637BD#32) * g (ix1 d)

/-- A row's product with a column of the weights. -/
def P (n : Fin 8) (s : Fin 8320) (j : Fin 3088) : EReal := ∑ d : Fin 1024, hn x g n s d * w (ix2 d j)

/-- The gate before its log-sigmoid. -/
def pre (n : Fin 8) (s : Fin 8320) (j : Fin 256) : EReal :=
  (∑ r : Fin 16, P x g w n s ⟨3072 + r.val, by omega⟩ * u (ix2 r j)) + b (ix1 j)

/-- The log-sigmoid. -/
def logsig (y : EReal) : EReal := min y 0 - Ideal.log (1 + Ideal.exp (-max y (-y)))

/-- The eight results. -/
def R0 : (⟨3, ![8, 512, 8320]⟩ : Shape).Idx → EReal := fun i =>
  P x g w (i 0) (i 2) ⟨(i 1).val, lt_trans (i 1).isLt (by decide)⟩ * ((1 / 8 : ℝ) : EReal)
def R1 : (⟨3, ![8, 8320, 512]⟩ : Shape).Idx → EReal := fun i =>
  P x g w (i 0) (i 1) ⟨512 + (i 2).val, lt_trans (Nat.add_lt_add_left (i 2).isLt 512) (by decide)⟩
def R2 : (⟨3, ![8, 512, 8320]⟩ : Shape).Idx → EReal := fun i =>
  P x g w (i 0) (i 2) ⟨1024 + (i 1).val, lt_trans (Nat.add_lt_add_left (i 1).isLt 1024) (by decide)⟩
def R3 : (⟨3, ![8, 8320, 256]⟩ : Shape).Idx → EReal := fun i =>
  P x g w (i 0) (i 1) ⟨1536 + (i 2).val, lt_trans (Nat.add_lt_add_left (i 2).isLt 1536) (by decide)⟩ * ((1 / 8 : ℝ) : EReal)
def R4 : (⟨3, ![8, 8320, 256]⟩ : Shape).Idx → EReal := fun i =>
  P x g w (i 0) (i 1) ⟨1792 + (i 2).val, lt_trans (Nat.add_lt_add_left (i 2).isLt 1792) (by decide)⟩
def R5 : (⟨3, ![8, 8320, 512]⟩ : Shape).Idx → EReal := fun i =>
  P x g w (i 0) (i 1) ⟨2048 + (i 2).val, lt_trans (Nat.add_lt_add_left (i 2).isLt 2048) (by decide)⟩
def R6 : (⟨3, ![8, 8320, 512]⟩ : Shape).Idx → EReal := fun i =>
  P x g w (i 0) (i 1) ⟨2560 + (i 2).val, lt_trans (Nat.add_lt_add_left (i 2).isLt 2560) (by decide)⟩
def R7 : (⟨3, ![8, 8320, 256]⟩ : Shape).Idx → EReal := fun i =>
  logsig (pre x g w u b (i 0) (i 1) (i 2)) * ((1 / 16 : ℝ) : EReal)

end

/-- A number that is not negative factors out of a sum, whatever the sum holds. -/
theorem sum_scale {n : ℕ} (h w : Fin n → EReal) (c : ℝ) (hc : 0 ≤ c) :
    ∑ d, h d * (w d * (c : EReal)) = (∑ d, h d * w d) * (c : EReal) := by
  classical
  have key : ∀ s : Finset (Fin n), ∑ d ∈ s, h d * (w d * (c : EReal)) = (∑ d ∈ s, h d * w d) * (c : EReal) := by
    intro s
    induction s using Finset.induction_on with
    | empty => simp
    | insert a s ha ih =>
      rw [Finset.sum_insert ha, Finset.sum_insert ha, ih,
        EReal.right_distrib_of_nonneg_of_ne_top (EReal.coe_nonneg.2 hc) (EReal.coe_ne_top c), mul_assoc]
  exact key _

/-- A sum of 128 whose terms past the first 16 are zero. -/
theorem sum_pad (f : Fin 128 → EReal) (hf : ∀ r : Fin 128, 16 ≤ r.val → f r = 0) :
    ∑ r, f r = ∑ r : Fin 16, f ⟨r.val, by omega⟩ := by
  rw [show (∑ r, f r) = ∑ r : Fin (16 + 112), f r from rfl, Fin.sum_univ_add,
    Finset.sum_eq_zero (s := Finset.univ) (f := fun i : Fin 112 => f (Fin.natAdd 16 i)) (fun i _ => hf _ (by show 16 ≤ 16 + i.val; omega)), add_zero]
  rfl

theorem eighth_word : Ideal.ofBits .f32 0x3E000000#32 = ((1 / 8 : ℝ) : EReal) := by
  simp [Ideal.ofBits, Ideal.ieee, -EReal.coe_mul]
  norm_num

theorem sixteen_word : Ideal.ofBits .f32 0x41800000#32 = ((16 : ℝ) : EReal) := by
  simp [Ideal.ofBits, Ideal.ieee, -EReal.coe_mul]
  norm_num

theorem sixteenth_word : Ideal.ofBits .f32 0x3D800000#32 = ((1 / 16 : ℝ) : EReal) := by
  simp [Ideal.ofBits, Ideal.ieee, -EReal.coe_mul]
  norm_num

/-- The log-sigmoid as the negated softplus of the negated number. -/
theorem neg_softplus (y : EReal) : -(max (-y) 0 + Ideal.log (1 + Ideal.exp (-max (-y) (- -y)))) = logsig y := by
  unfold logsig
  rw [neg_neg, max_comm (-y) y]
  have hm : -max (-y) 0 = min y 0 := by
    rcases le_total y 0 with h | h
    · rw [min_eq_left h, max_eq_left (by simpa using EReal.neg_le_neg_iff.2 h), neg_neg]
    · rw [min_eq_right h, max_eq_right (by simpa using EReal.neg_le_neg_iff.2 h), neg_zero]
  have hL : ∃ r : ℝ, Ideal.log (1 + Ideal.exp (-max y (-y))) = (r : EReal) := by
    induction y using EReal.rec with
    | bot => exact ⟨0, by simp [← EReal.coe_one]⟩
    | top => exact ⟨0, by simp [← EReal.coe_one]⟩
    | coe r =>
      rcases le_total (r : EReal) (-(r : EReal)) with h | h
      · rw [max_eq_right h, neg_neg, Ideal.exp_coe, ← EReal.coe_one, ← EReal.coe_add, Ideal.log_coe, if_neg (not_le.2 (by positivity))]
        exact ⟨_, rfl⟩
      · rw [max_eq_left h, ← EReal.coe_neg, Ideal.exp_coe, ← EReal.coe_one, ← EReal.coe_add, Ideal.log_coe, if_neg (not_le.2 (by positivity))]
        exact ⟨_, rfl⟩
  obtain ⟨r, hr⟩ := hL
  rw [hr, EReal.neg_add (.inr (EReal.coe_ne_top r)) (.inr (EReal.coe_ne_bot r)), hm]

end Cert.Proj

end
-- ==== Proof.KI2.Body.lean ====
/-
  The input projection's body read element by element: the normed rows and their products with the weights' blocks.
-/
module

public import proofs.«01_k».proof.Proof.Gen.Kernel2Ideal.Skeleton
public import proofs.«01_k».proof.Proof.In.Spec
public import Idealize.ShloMosaic.Lib.Pointwise

@[expose] public section

noncomputable section

namespace Cert.Kernel2Ideal.Body

open Cert.Kernel2Ideal Cert.Kernel2Ideal.Gen Cert.Proj
open Idealize.ShloMosaic Idealize.ShloMosaic.TcCoe

variable (x : Vec Ideal S1x640x1024 .f32) (g : Vec Ideal S1x1024 .f32) (h : FVec Ideal S640x1024 .bf16)

theorem hn_apply (l : Fin 640) (d : Fin 1024) : k0_pay2 x g (ix2 l d)
    = x (ix3 0 l d) * Ideal.rsqrt (Ideal.div (∑ e : Fin 1024, x (ix3 0 l e) * x (ix3 0 l e)) (Ideal.ofBits FTy.f32 0x44800000#32)
      + Ideal.ofBits FTy.f32 0x358637BD#32) * g (ix2 0 d) := by
  pointwise [k0_pay2]

/-- Queries and values come out transposed. -/
theorem q_apply (w : Vec Ideal S512x1024 .bf16) (r : Fin 512) (l : Fin 640) :
    k0_pay3 x g w (ix3 0 r l) = ∑ d : Fin 1024, w (ix2 r d) * k0_pay2 x g (ix2 l d) := by
  pointwise [k0_pay3, dot_S512x1024_S640x1024_S512x640_1_1_0_0_n_n]

theorem k_apply (w : Vec Ideal S1024x512 .bf16) (l : Fin 640) (r : Fin 512) :
    k0_pay4 x g w (ix3 0 l r) = ∑ d : Fin 1024, k0_pay2 x g (ix2 l d) * w (ix2 d r) := by
  pointwise [k0_pay4, dot_S640x1024_S1024x512_S640x512_1_0_0_1_n_n]

theorem v_apply (w : Vec Ideal S512x1024 .bf16) (r : Fin 512) (l : Fin 640) :
    k0_pay6 h (k0_pay5 w) (constant S512x640 .f32 0x00000000#32) (ix3 0 r l) = ∑ d : Fin 1024, w (ix2 r d) * h (ix2 l d) := by
  pointwise [k0_pay6, k0_pay5, dot_S512x1024_S640x1024_S512x640_1_1_0_0_n_n]

theorem g_apply (w : Vec Ideal S1024x1536 .bf16) (l : Fin 640) (r : Fin 1536) :
    k0_pay7 h w (ix2 l r) = ∑ d : Fin 1024, h (ix2 l d) * w (ix2 d r) := by
  pointwise [k0_pay7, dot_S640x1024_S1024x1536_S640x1536_1_0_0_1_n_n]

theorem gq_apply (w : Vec Ideal S1024x1536 .bf16) (l : Fin 640) (r : Fin 256) :
    k0_pay8 h w (ix3 0 l r) = ∑ d : Fin 1024, h (ix2 l d) * w (ix2 d ⟨r.val, by omega⟩) := by
  rw [← g_apply]; pointwise [k0_pay8]

theorem gk_apply (w : Vec Ideal S1024x1536 .bf16) (l : Fin 640) (r : Fin 256) :
    k0_pay9 h w (ix3 0 l r) = ∑ d : Fin 1024, h (ix2 l d) * w (ix2 d ⟨256 + r.val, by omega⟩) := by
  rw [← g_apply]; pointwise [k0_pay9]

theorem gv_apply (w : Vec Ideal S1024x1536 .bf16) (l : Fin 640) (r : Fin 512) :
    k0_pay10 h w (ix3 0 l r) = ∑ d : Fin 1024, h (ix2 l d) * w (ix2 d ⟨512 + r.val, by omega⟩) := by
  rw [← g_apply]; pointwise [k0_pay10]

theorem gr_apply (w : Vec Ideal S1024x1536 .bf16) (l : Fin 640) (r : Fin 512) :
    k0_pay11 h w (ix3 0 l r) = ∑ d : Fin 1024, h (ix2 l d) * w (ix2 d ⟨1024 + r.val, by omega⟩) := by
  rw [← g_apply]; pointwise [k0_pay11]

theorem glr_apply (w : Vec Ideal S1024x128 .bf16) (l : Fin 640) (r : Fin 128) :
    k0_pay12 h w (ix2 l r) = ∑ d : Fin 1024, h (ix2 l d) * w (ix2 d r) := by
  pointwise [k0_pay12, dot_S640x1024_S1024x128_S640x128_1_0_0_1_n_n]

theorem lg_apply (a : FVec Ideal S640x128 .bf16) (u : Vec Ideal S128x256 .bf16) (b : Vec Ideal S1x256 .f32) (l : Fin 640) (r : Fin 256) :
    k0_pay1 a (k0_pay13 u) (constant S640x256 .f32 0x00000000#32) b (ix3 0 l r)
      = logsig ((∑ k : Fin 128, a (ix2 l k) * u (ix2 k r)) + b (ix2 0 r)) * ((1 / 16 : ℝ) : EReal) := by
  pointwise [k0_pay1, k0_pay13, dot_S640x128_S128x256_S640x256_1_0_0_1_n_n]
  rw [sixteenth_word, zero_sub]
  rfl

end Cert.Kernel2Ideal.Body

end
-- ==== Proof.KI2.Block.lean ====
/-
  What each of the input projection's blocks holds, off the five arguments: the weights' columns scaled, transposed,
  joined and padded before the call.
-/
module

public import proofs.«01_k».proof.Proof.Gen.Kernel2Ideal.Value
public import proofs.«01_k».proof.Proof.KI2.Body
public import Idealize.ShloMosaic.Lib.Pipeline.ValueKit
public import Idealize.ShloMosaic.Lib.KernelVsHost

@[expose] public section

set_option maxRecDepth 16384

noncomputable section

namespace Cert.Kernel2Ideal.Block

open Cert.Kernel2Ideal Cert.Kernel2Ideal.Gen Cert.Kernel2Ideal.Body Cert.Proj
open Idealize.ShloMosaic Idealize.ShloMosaic.TcCoe

theorem idx0 : ∀ t : Fin grid0.N, win0_0.index t = ![(grid0.coords t 0).val, (grid0.coords t 1).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel

variable (m : (ℓ : Loc nD τ sig) → Buf (Elt Ideal) ℓ) (c : Dev nD)

/-- The five arguments. -/
abbrev argX : (⟨3, ![8, 8320, 1024]⟩ : Shape).Idx → EReal := m ((c : Thread nD τ).loc main_arg0)
abbrev argG : (⟨1, ![1024]⟩ : Shape).Idx → EReal := m ((c : Thread nD τ).loc main_arg1)
abbrev argW : (⟨2, ![1024, 3088]⟩ : Shape).Idx → EReal := m ((c : Thread nD τ).loc main_arg2)
abbrev argU : (⟨2, ![16, 256]⟩ : Shape).Idx → EReal := m ((c : Thread nD τ).loc main_arg3)
abbrev argB : (⟨1, ![256]⟩ : Shape).Idx → EReal := m ((c : Thread nD τ).loc main_arg4)

variable (t : Fin cfg0.N)

/-- The point's batch and block of rows. -/
abbrev bt : ℕ := (grid0.coords t 0).val
abbrev rb : ℕ := (grid0.coords t 1).val

theorem bt_lt : bt t < 8 := (grid0.coords t 0).isLt
theorem rb_lt : rb t < 13 := (grid0.coords t 1).isLt

/-- The row of the array a row of the block is. -/
abbrev row (l : Fin 640) : Fin 8320 := ⟨640 * rb t + l.val, by have := rb_lt t; omega⟩
abbrev bat : Fin 8 := ⟨bt t, bt_lt t⟩

theorem blkX (l : Fin 640) (d : Fin 1024) : iblk m c 0 t (ix3 0 l d) = argX m c (ix3 (bat t) (row t l) d) := by
  have h0 := bt_lt t; have h1 := rb_lt t
  blk_simp [iblk]
  rw [V_main_arg0]
  blk_ext! [idx0 t]
  all_goals (simp only [bt, rb]; omega)

theorem blkG (d : Fin 1024) : iblk m c 1 t (ix2 0 d) = argG m c (ix1 d) := by
  blk_simp [iblk]
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  blk_ext! [idx1 t]

theorem blkB (r : Fin 256) : iblk m c 8 t (ix2 0 r) = argB m c (ix1 r) := by
  blk_simp [iblk]
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  blk_ext! [idx8 t]

theorem emb2 (r : Fin 512) (d : Fin 1024) : (win0_2.blk t).view.emb (ix2 r d) = ix2 r d := by blk_ext [idx2 t]

theorem blkQ (r : Fin 512) (d : Fin 1024) : iblk m c 2 t (ix2 r d) = argW m c (ix2 d ⟨r.val, by omega⟩) * ((1 / 8 : ℝ) : EReal) := by
  rw [← eighth_word]
  blk_simp [iblk]
  rw [emb2]
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise

theorem blkK (d : Fin 1024) (r : Fin 512) : iblk m c 3 t (ix2 d r) = argW m c (ix2 d ⟨512 + r.val, by omega⟩) := by
  blk_simp [iblk]
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  blk_ext! [idx3 t]

theorem blkV (r : Fin 512) (d : Fin 1024) : iblk m c 4 t (ix2 r d) = argW m c (ix2 d ⟨1024 + r.val, by omega⟩) := by
  blk_simp [iblk]
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  blk_ext! [idx4 t]

theorem emb5 (d : Fin 1024) (r : Fin 1536) : (win0_5.blk t).view.emb (ix2 d r) = ix2 d r := by blk_ext [idx5 t]
theorem emb6 (d : Fin 1024) (r : Fin 128) : (win0_6.blk t).view.emb (ix2 d r) = ix2 d r := by blk_ext [idx6 t]
theorem emb7 (r : Fin 128) (j : Fin 256) : (win0_7.blk t).view.emb (ix2 r j) = ix2 r j := by blk_ext [idx7 t]

theorem blkW (d : Fin 1024) (r : Fin 1536) : iblk m c 5 t (ix2 d r) =
    if r.val < 256 then argW m c (ix2 d ⟨1536 + r.val, by omega⟩) * ((1 / 8 : ℝ) : EReal) else argW m c (ix2 d ⟨1536 + r.val, by omega⟩) := by
  rw [← eighth_word]
  blk_simp [iblk]
  rw [emb5]
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  after_results_simp
  pointwise
  split
  · rfl
  · refine congrArg (argW m c) (congrArg (ix2 d) (Fin.ext ?_))
    show 1792 + (r.val - 256) = 1536 + r.val
    omega

theorem blkL (d : Fin 1024) (r : Fin 128) : iblk m c 6 t (ix2 d r) =
    if h : r.val < 16 then argW m c (ix2 d ⟨3072 + r.val, by omega⟩) else 0 := by
  blk_simp [iblk]
  rw [emb6]
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  rw [show FloatOps.sitofp (F := Ideal) FTy.f32 (0#32) = (0 : EReal) from by show ((((0#32 : BitVec 32).toInt : ℤ) : ℝ) : EReal) = 0; simp]

theorem blkU (r : Fin 128) (j : Fin 256) : iblk m c 7 t (ix2 r j) = if h : r.val < 16 then argU m c (ix2 ⟨r.val, h⟩ j) else 0 := by
  blk_simp [iblk]
  rw [emb7]
  simp only [V, hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp
  pointwise
  rw [show FloatOps.sitofp (F := Ideal) FTy.f32 (0#32) = (0 : EReal) from by show ((((0#32 : BitVec 32).toInt : ℤ) : ℝ) : EReal) = 0; simp]

end Cert.Kernel2Ideal.Block

end
-- ==== Proof.KI2.Final.lean ====
/-
  The eight arrays after the input projection's run.
-/
module

public import proofs.«01_k».proof.Proof.KI2.Block

@[expose] public section

set_option maxRecDepth 16384

noncomputable section

namespace Cert.Kernel2Ideal.Block

open Cert.Kernel2Ideal Cert.Kernel2Ideal.Gen Cert.Kernel2Ideal.Body Cert.Proj
open Idealize.ShloMosaic Idealize.ShloMosaic.TcCoe

theorem idx9 : ∀ t : Fin grid0.N, win0_9.index t = ![(grid0.coords t 0).val, 0, (grid0.coords t 1).val] := by decide +kernel
theorem idx10 : ∀ t : Fin grid0.N, win0_10.index t = ![(grid0.coords t 0).val, (grid0.coords t 1).val, 0] := by decide +kernel
theorem idx11 : ∀ t : Fin grid0.N, win0_11.index t = ![(grid0.coords t 0).val, 0, (grid0.coords t 1).val] := by decide +kernel
theorem idx12 : ∀ t : Fin grid0.N, win0_12.index t = ![(grid0.coords t 0).val, (grid0.coords t 1).val, 0] := by decide +kernel
theorem idx13 : ∀ t : Fin grid0.N, win0_13.index t = ![(grid0.coords t 0).val, (grid0.coords t 1).val, 0] := by decide +kernel
theorem idx14 : ∀ t : Fin grid0.N, win0_14.index t = ![(grid0.coords t 0).val, (grid0.coords t 1).val, 0] := by decide +kernel
theorem idx15 : ∀ t : Fin grid0.N, win0_15.index t = ![(grid0.coords t 0).val, (grid0.coords t 1).val, 0] := by decide +kernel
theorem idx16 : ∀ t : Fin grid0.N, win0_16.index t = ![(grid0.coords t 0).val, (grid0.coords t 1).val, 0] := by decide +kernel

variable (m : (ℓ : Loc nD τ sig) → Buf (Elt Ideal) ℓ) (c : Dev nD) (t : Fin cfg0.N)

/-- The point's normed rows. -/
abbrev rows : FVec Ideal S640x1024 .bf16 := k0_pay2 (iblk m c 0 t) (iblk m c 1 t)

theorem rows_apply (l : Fin 640) (d : Fin 1024) : rows m c t (ix2 l d) = hn (argX m c) (argG m c) (bat t) (row t l) d := by
  show k0_pay2 (iblk m c 0 t) (iblk m c 1 t) (ix2 l d) = _
  rw [hn_apply, blkG]
  simp only [blkX]
  rfl

/-- A row's product with a column of the weights, the column's numbers scaled or not. -/
abbrev prod (l : Fin 640) (j : Fin 3088) : EReal := P (argX m c) (argG m c) (argW m c) (bat t) (row t l) j

theorem q_point (r : Fin 512) (l : Fin 640) : k0_pay3 (iblk m c 0 t) (iblk m c 1 t) (iblk m c 2 t) (ix3 0 r l)
    = prod m c t l ⟨r.val, by omega⟩ * ((1 / 8 : ℝ) : EReal) := by
  rw [q_apply]
  unfold prod P
  rw [← sum_scale _ _ _ (by norm_num)]
  refine Finset.sum_congr rfl fun d _ => ?_
  rw [blkQ, show k0_pay2 (iblk m c 0 t) (iblk m c 1 t) (ix2 l d) = _ from rows_apply m c t l d, mul_comm]

theorem k_point (l : Fin 640) (r : Fin 512) : k0_pay4 (iblk m c 0 t) (iblk m c 1 t) (iblk m c 3 t) (ix3 0 l r)
    = prod m c t l ⟨512 + r.val, by omega⟩ := by
  rw [k_apply]
  refine Finset.sum_congr rfl fun d _ => ?_
  rw [blkK, show k0_pay2 (iblk m c 0 t) (iblk m c 1 t) (ix2 l d) = _ from rows_apply m c t l d]

theorem v_point (r : Fin 512) (l : Fin 640) :
    k0_pay6 (rows m c t) (k0_pay5 (iblk m c 4 t)) (constant S512x640 .f32 0x00000000#32) (ix3 0 r l) = prod m c t l ⟨1024 + r.val, by omega⟩ := by
  rw [v_apply]
  refine Finset.sum_congr rfl fun d _ => ?_
  rw [blkV, rows_apply, mul_comm]

theorem gq_point (l : Fin 640) (r : Fin 256) : k0_pay8 (rows m c t) (iblk m c 5 t) (ix3 0 l r)
    = prod m c t l ⟨1536 + r.val, by omega⟩ * ((1 / 8 : ℝ) : EReal) := by
  rw [gq_apply]
  unfold prod P
  rw [← sum_scale _ _ _ (by norm_num)]
  refine Finset.sum_congr rfl fun d _ => ?_
  rw [blkW, rows_apply, if_pos r.isLt]

theorem rest_point (l : Fin 640) (o : ℕ) (r : ℕ) (h : o + r < 1536) (h' : 256 ≤ o) (j : Fin 3088) (hj : j.val = 1536 + (o + r)) :
    ∑ d : Fin 1024, rows m c t (ix2 l d) * iblk m c 5 t (ix2 d (⟨o + r, h⟩ : Fin 1536)) = prod m c t l j := by
  refine Finset.sum_congr rfl fun d _ => ?_
  rw [blkW, rows_apply, if_neg (by show ¬ o + r < 256; omega)]
  refine congrArg (_ * ·) (congrArg (argW m c) (congrArg (ix2 d) (Fin.ext hj.symm)))

theorem gk_point (l : Fin 640) (r : Fin 256) : k0_pay9 (rows m c t) (iblk m c 5 t) (ix3 0 l r) = prod m c t l ⟨1792 + r.val, by omega⟩ := by
  rw [gk_apply]
  exact rest_point m c t l 256 r.val _ (by omega) _ (by show 1792 + r.val = _; omega)

theorem gv_point (l : Fin 640) (r : Fin 512) : k0_pay10 (rows m c t) (iblk m c 5 t) (ix3 0 l r) = prod m c t l ⟨2048 + r.val, by omega⟩ := by
  rw [gv_apply]
  exact rest_point m c t l 512 r.val _ (by omega) _ (by show 2048 + r.val = _; omega)

theorem gr_point (l : Fin 640) (r : Fin 512) : k0_pay11 (rows m c t) (iblk m c 5 t) (ix3 0 l r) = prod m c t l ⟨2560 + r.val, by omega⟩ := by
  rw [gr_apply]
  exact rest_point m c t l 1024 r.val _ (by omega) _ (by show 2560 + r.val = _; omega)

theorem lg_point (l : Fin 640) (r : Fin 256) :
    k0_pay1 (k0_pay12 (rows m c t) (iblk m c 6 t)) (k0_pay13 (iblk m c 7 t)) (constant S640x256 .f32 0x00000000#32) (iblk m c 8 t) (ix3 0 l r)
      = logsig (pre (argX m c) (argG m c) (argW m c) (argU m c) (argB m c) (bat t) (row t l) r) * ((1 / 16 : ℝ) : EReal) := by
  rw [lg_apply, blkB]
  refine congrArg (fun e => logsig (e + argB m c (ix1 r)) * ((1 / 16 : ℝ) : EReal)) ?_
  rw [sum_pad _ fun k hk => by rw [blkU, dif_neg (by omega), mul_zero]]
  refine Finset.sum_congr rfl fun k _ => ?_
  rw [blkU, dif_pos (show k.val < 16 from k.isLt), glr_apply]
  refine congrArg (· * _) (Finset.sum_congr rfl fun d _ => ?_)
  rw [blkL, rows_apply, dif_pos (show k.val < 16 from k.isLt)]

/-! ## Where a window's entry lies in its array -/

theorem emb9 (r : Fin 512) (l : Fin 640) : (win0_9.blk t).view.emb (ix3 0 r l : S1x512x640.Idx) = ix3 (bat t) r (row t l) := by
  ext x
  fin_cases x <;> blk_simp [idx9 t]
  · rfl
  · rfl
  · show rb t * 640 + l.val = 640 * rb t + l.val
    omega

theorem emb10 (l : Fin 640) (r : Fin 512) : (win0_10.blk t).view.emb (ix3 0 l r : S1x640x512.Idx) = ix3 (bat t) (row t l) r := by
  ext x
  fin_cases x <;> blk_simp [idx10 t]
  · rfl
  · show rb t * 640 + l.val = 640 * rb t + l.val
    omega
  · rfl

theorem emb11 (r : Fin 512) (l : Fin 640) : (win0_11.blk t).view.emb (ix3 0 r l : S1x512x640.Idx) = ix3 (bat t) r (row t l) := by
  ext x
  fin_cases x <;> blk_simp [idx11 t]
  · rfl
  · rfl
  · show rb t * 640 + l.val = 640 * rb t + l.val
    omega

theorem emb12 (l : Fin 640) (r : Fin 256) : (win0_12.blk t).view.emb (ix3 0 l r : S1x640x256.Idx) = ix3 (bat t) (row t l) r := by
  ext x
  fin_cases x <;> blk_simp [idx12 t]
  · rfl
  · show rb t * 640 + l.val = 640 * rb t + l.val
    omega
  · rfl

theorem emb13 (l : Fin 640) (r : Fin 256) : (win0_13.blk t).view.emb (ix3 0 l r : S1x640x256.Idx) = ix3 (bat t) (row t l) r := by
  ext x
  fin_cases x <;> blk_simp [idx13 t]
  · rfl
  · show rb t * 640 + l.val = 640 * rb t + l.val
    omega
  · rfl

theorem emb14 (l : Fin 640) (r : Fin 512) : (win0_14.blk t).view.emb (ix3 0 l r : S1x640x512.Idx) = ix3 (bat t) (row t l) r := by
  ext x
  fin_cases x <;> blk_simp [idx14 t]
  · rfl
  · show rb t * 640 + l.val = 640 * rb t + l.val
    omega
  · rfl

theorem emb15 (l : Fin 640) (r : Fin 512) : (win0_15.blk t).view.emb (ix3 0 l r : S1x640x512.Idx) = ix3 (bat t) (row t l) r := by
  ext x
  fin_cases x <;> blk_simp [idx15 t]
  · rfl
  · show rb t * 640 + l.val = 640 * rb t + l.val
    omega
  · rfl

theorem emb16 (l : Fin 640) (r : Fin 256) : (win0_16.blk t).view.emb (ix3 0 l r : S1x640x256.Idx) = ix3 (bat t) (row t l) r := by
  ext x
  fin_cases x <;> blk_simp [idx16 t]
  · rfl
  · show rb t * 640 + l.val = 640 * rb t + l.val
    omega
  · rfl

/-! ## The arrays -/

theorem at0 (y : S1x512x640.Idx) : k0_pay3 (iblk m c 0 t) (iblk m c 1 t) (iblk m c 2 t) y = R0 (argX m c) (argG m c) (argW m c) ((win0_9.blk t).view.emb y) := by
  obtain ⟨a, p, q, rfl⟩ : ∃ (a : Fin 1) (p : Fin 512) (q : Fin 640), y = ix3 a p q := ⟨_, _, _, eq_ix3 y⟩
  obtain rfl : a = 0 := Subsingleton.elim _ _
  rw [emb9 t p q]
  exact q_point m c t p q

theorem final0 : (dats m 0 c).arrAt 9 cfg0.N = R0 (argX m c) (argG m c) (argW m c) := by
  refine (dats m 0 c).arrAt_eq_of_covers 9 _ (by decide +kernel) fun t hf y => ?_
  blk_simp
  rw [after0_9]
  frame_out
  exact at0 m c t y

theorem at1 (y : S1x640x512.Idx) : k0_pay4 (iblk m c 0 t) (iblk m c 1 t) (iblk m c 3 t) y = R1 (argX m c) (argG m c) (argW m c) ((win0_10.blk t).view.emb y) := by
  obtain ⟨a, p, q, rfl⟩ : ∃ (a : Fin 1) (p : Fin 640) (q : Fin 512), y = ix3 a p q := ⟨_, _, _, eq_ix3 y⟩
  obtain rfl : a = 0 := Subsingleton.elim _ _
  rw [emb10 t p q]
  exact k_point m c t p q

theorem final1 : (dats m 0 c).arrAt 10 cfg0.N = R1 (argX m c) (argG m c) (argW m c) := by
  refine (dats m 0 c).arrAt_eq_of_covers 10 _ (by decide +kernel) fun t hf y => ?_
  blk_simp
  rw [after0_10]
  frame_out
  exact at1 m c t y

theorem at2 (y : S1x512x640.Idx) : k0_pay6 (rows m c t) (k0_pay5 (iblk m c 4 t)) (constant S512x640 .f32 0x00000000#32) y = R2 (argX m c) (argG m c) (argW m c) ((win0_11.blk t).view.emb y) := by
  obtain ⟨a, p, q, rfl⟩ : ∃ (a : Fin 1) (p : Fin 512) (q : Fin 640), y = ix3 a p q := ⟨_, _, _, eq_ix3 y⟩
  obtain rfl : a = 0 := Subsingleton.elim _ _
  rw [emb11 t p q]
  exact v_point m c t p q

theorem final2 : (dats m 0 c).arrAt 11 cfg0.N = R2 (argX m c) (argG m c) (argW m c) := by
  refine (dats m 0 c).arrAt_eq_of_covers 11 _ (by decide +kernel) fun t hf y => ?_
  blk_simp
  rw [after0_11]
  unfold out0_11 k0_pay14
  frame_out
  exact at2 m c t y

theorem at3 (y : S1x640x256.Idx) : k0_pay8 (rows m c t) (iblk m c 5 t) y = R3 (argX m c) (argG m c) (argW m c) ((win0_12.blk t).view.emb y) := by
  obtain ⟨a, p, q, rfl⟩ : ∃ (a : Fin 1) (p : Fin 640) (q : Fin 256), y = ix3 a p q := ⟨_, _, _, eq_ix3 y⟩
  obtain rfl : a = 0 := Subsingleton.elim _ _
  rw [emb12 t p q]
  exact gq_point m c t p q

theorem final3 : (dats m 0 c).arrAt 12 cfg0.N = R3 (argX m c) (argG m c) (argW m c) := by
  refine (dats m 0 c).arrAt_eq_of_covers 12 _ (by decide +kernel) fun t hf y => ?_
  blk_simp
  rw [after0_12]
  unfold out0_12 k0_pay14
  frame_out
  exact at3 m c t y

theorem at4 (y : S1x640x256.Idx) : k0_pay9 (rows m c t) (iblk m c 5 t) y = R4 (argX m c) (argG m c) (argW m c) ((win0_13.blk t).view.emb y) := by
  obtain ⟨a, p, q, rfl⟩ : ∃ (a : Fin 1) (p : Fin 640) (q : Fin 256), y = ix3 a p q := ⟨_, _, _, eq_ix3 y⟩
  obtain rfl : a = 0 := Subsingleton.elim _ _
  rw [emb13 t p q]
  exact gk_point m c t p q

theorem final4 : (dats m 0 c).arrAt 13 cfg0.N = R4 (argX m c) (argG m c) (argW m c) := by
  refine (dats m 0 c).arrAt_eq_of_covers 13 _ (by decide +kernel) fun t hf y => ?_
  blk_simp
  rw [after0_13]
  unfold out0_13 k0_pay14
  frame_out
  exact at4 m c t y

theorem at5 (y : S1x640x512.Idx) : k0_pay10 (rows m c t) (iblk m c 5 t) y = R5 (argX m c) (argG m c) (argW m c) ((win0_14.blk t).view.emb y) := by
  obtain ⟨a, p, q, rfl⟩ : ∃ (a : Fin 1) (p : Fin 640) (q : Fin 512), y = ix3 a p q := ⟨_, _, _, eq_ix3 y⟩
  obtain rfl : a = 0 := Subsingleton.elim _ _
  rw [emb14 t p q]
  exact gv_point m c t p q

theorem final5 : (dats m 0 c).arrAt 14 cfg0.N = R5 (argX m c) (argG m c) (argW m c) := by
  refine (dats m 0 c).arrAt_eq_of_covers 14 _ (by decide +kernel) fun t hf y => ?_
  blk_simp
  rw [after0_14]
  unfold out0_14 k0_pay14
  frame_out
  exact at5 m c t y

theorem at6 (y : S1x640x512.Idx) : k0_pay11 (rows m c t) (iblk m c 5 t) y = R6 (argX m c) (argG m c) (argW m c) ((win0_15.blk t).view.emb y) := by
  obtain ⟨a, p, q, rfl⟩ : ∃ (a : Fin 1) (p : Fin 640) (q : Fin 512), y = ix3 a p q := ⟨_, _, _, eq_ix3 y⟩
  obtain rfl : a = 0 := Subsingleton.elim _ _
  rw [emb15 t p q]
  exact gr_point m c t p q

theorem final6 : (dats m 0 c).arrAt 15 cfg0.N = R6 (argX m c) (argG m c) (argW m c) := by
  refine (dats m 0 c).arrAt_eq_of_covers 15 _ (by decide +kernel) fun t hf y => ?_
  blk_simp
  rw [after0_15]
  unfold out0_15 k0_pay14
  frame_out
  exact at6 m c t y

theorem at7 (y : S1x640x256.Idx) : k0_pay1 (k0_pay12 (rows m c t) (iblk m c 6 t)) (k0_pay13 (iblk m c 7 t)) (constant S640x256 .f32 0x00000000#32) (iblk m c 8 t) y = R7 (argX m c) (argG m c) (argW m c) (argU m c) (argB m c) ((win0_16.blk t).view.emb y) := by
  obtain ⟨a, p, q, rfl⟩ : ∃ (a : Fin 1) (p : Fin 640) (q : Fin 256), y = ix3 a p q := ⟨_, _, _, eq_ix3 y⟩
  obtain rfl : a = 0 := Subsingleton.elim _ _
  rw [emb16 t p q]
  exact lg_point m c t p q

theorem final7 : (dats m 0 c).arrAt 16 cfg0.N = R7 (argX m c) (argG m c) (argW m c) (argU m c) (argB m c) := by
  refine (dats m 0 c).arrAt_eq_of_covers 16 _ (by decide +kernel) fun t hf y => ?_
  blk_simp
  rw [after0_16]
  unfold out0_16 k0_pay14
  frame_out
  exact at7 m c t y

end Cert.Kernel2Ideal.Block

end
-- ==== Proof.RI2.Value.lean ====
/-
  The values of the input projection's reference.
-/
module

public import proofs.«01_k».proof.Proof.In.Spec
public import proofs.«01_k».proof.Proof.Gen.Reference2Ideal.Read

@[expose] public section

set_option maxRecDepth 16384

noncomputable section

namespace Cert.Reference2Ideal.Values

open Cert.Reference2Ideal Cert.Reference2Ideal.Gen Cert.Reference2Ideal.Read Cert.Proj
open Idealize.ShloMosaic Idealize.ShloMosaic.TcCoe

variable (x0 : (⟨S8x8320x1024, .f32⟩ : BufTy).Contents (Elt Ideal)) (x1 : (⟨S1024, .f32⟩ : BufTy).Contents (Elt Ideal))
  (x2 : (⟨S1024x3088, .f32⟩ : BufTy).Contents (Elt Ideal)) (x3 : (⟨S16x256, .f32⟩ : BufTy).Contents (Elt Ideal))
  (x4 : (⟨S256, .f32⟩ : BufTy).Contents (Elt Ideal))

theorem hn_ref (n : Fin 8) (s : Fin 8320) (d : Fin 1024) : val_main_v12 (F := Ideal) x0 x1 (ix3 n s d) = hn x0 x1 n s d := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply, val_main_cst_apply,
    val_main_cst_0_apply, val_main_cst_1_apply]
  rw [show FloatOps.ofBits (F := Ideal) .f32 0x00000000#32 = (0 : EReal) from Ideal.ofBits_zero_f32, zero_add]
  simp only [val_main_v0_apply]
  unfold hn
  have e1 : ∀ k : Fin 1024, idx_main_v1 (idx_main_v2 (idx_main_v8 (ix3 n s d))) k = ix3 n s k := fun k => by
    funext a; fin_cases a <;> rfl
  have e2 : idx_main_v10 (idx_main_v11 (ix3 n s d)) = ix1 d := by
    funext a; fin_cases a; rfl
  rw [e2]
  simp only [e1]
  rfl

theorem P_ref (n : Fin 8) (s : Fin 8320) (j : Fin 3088) : val_main_v13 (F := Ideal) x0 x1 x2 (ix3 n s j) = P x0 x1 x2 n s j := by
  rw [val_main_v13_apply]
  unfold P
  refine Finset.sum_congr rfl fun k _ => ?_
  have e1 : lidx_main_v13 (ix3 n s j) k = ix3 n s k := by funext a; fin_cases a <;> rfl
  have e2 : ridx_main_v13 (ix3 n s j) k = ix2 k j := by funext a; fin_cases a <;> rfl
  rw [e1, e2, hn_ref]

/-- A column of the product, at an index whose coordinates are known. -/
theorem P_at (i : S8x8320x3088.Idx) (n : Fin 8) (s : Fin 8320) (j : Fin 3088) (hn : (i 0).val = n.val) (hs : (i 1).val = s.val) (hj : (i 2).val = j.val) :
    val_main_v13 (F := Ideal) x0 x1 x2 i = P x0 x1 x2 n s j := by
  rw [← P_ref]
  refine congrArg _ (funext fun a => Fin.ext ?_)
  fin_cases a
  · exact hn
  · exact hs
  · exact hj

theorem value0 : val_main_v32 (F := Ideal) x0 x1 x2 = R0 x0 x1 x2 := by
  funext i
  rw [val_main_v32_apply, val_main_v31_apply, val_main_v30_apply, val_main_v14_apply, val_main_v29_apply, val_main_cst_3_apply]
  unfold R0
  rw [← eighth_word]
  exact congrArg (· * _) (P_at x0 x1 x2 _ _ _ _ rfl rfl (by first | rfl | exact Nat.zero_add _))

theorem value1 : val_main_v33 (F := Ideal) x0 x1 x2 = R1 x0 x1 x2 := by
  funext i
  rw [val_main_v33_apply, val_main_v15_apply]
  exact P_at x0 x1 x2 _ _ _ _ rfl rfl rfl

theorem value2 : val_main_v35 (F := Ideal) x0 x1 x2 = R2 x0 x1 x2 := by
  funext i
  rw [val_main_v35_apply, val_main_v34_apply, val_main_v16_apply]
  exact P_at x0 x1 x2 _ _ _ _ rfl rfl rfl

theorem value3 : val_main_v37 (F := Ideal) x0 x1 x2 = R3 x0 x1 x2 := by
  funext i
  rw [val_main_v37_apply, val_main_v17_apply, val_main_v36_apply, val_main_cst_4_apply]
  unfold R3
  rw [← eighth_word]
  exact congrArg (· * _) (P_at x0 x1 x2 _ _ _ _ rfl rfl rfl)

theorem value4 : val_main_v18 (F := Ideal) x0 x1 x2 = R4 x0 x1 x2 := by
  funext i
  rw [val_main_v18_apply]
  exact P_at x0 x1 x2 _ _ _ _ rfl rfl rfl

theorem value5 : val_main_v38 (F := Ideal) x0 x1 x2 = R5 x0 x1 x2 := by
  funext i
  rw [val_main_v38_apply, val_main_v19_apply]
  exact P_at x0 x1 x2 _ _ _ _ rfl rfl rfl

theorem value6 : val_main_v20 (F := Ideal) x0 x1 x2 = R6 x0 x1 x2 := by
  funext i
  rw [val_main_v20_apply]
  exact P_at x0 x1 x2 _ _ _ _ rfl rfl rfl

theorem pre_ref (i : S8x8320x256.Idx) : val_main_v25 (F := Ideal) x0 x1 x2 x3 x4 i = pre x0 x1 x2 x3 x4 (i 0) (i 1) (i 2) := by
  rw [val_main_v25_apply, val_main_v22_apply, val_main_v24_apply, val_main_v23_apply]
  have e4 : idx_main_v23 (idx_main_v24 i) = ix1 (i 2) := by funext a; fin_cases a; rfl
  rw [e4]
  refine congrArg (· + _) (Finset.sum_congr rfl fun k _ => ?_)
  have e3 : ridx_main_v22 i k = ix2 k (i 2) := by funext a; fin_cases a <;> rfl
  rw [e3, val_main_v21_apply]
  exact congrArg (· * _) (P_at x0 x1 x2 _ _ _ _ rfl rfl rfl)

/-- The host's softplus. -/
theorem host_softplus (y : EReal) :
    Scalar.select (FloatOps.cmpf (F := Ideal) (φ := .f32) .une (y - 0) (y - 0)) (y + 0)
      (max y 0 + Ideal.log1p (Ideal.exp (-(max (y - 0) (-(y - 0)))))) = max y 0 + Ideal.log (1 + Ideal.exp (-max y (-y))) := by
  have hz : FloatOps.cmpf (F := Ideal) (φ := .f32) .une (y - 0) (y - 0) = 0#1 := by
    rw [Ideal.cmpf_def]
    show BitVec.ofBool (decide (_ ≠ _)) = _
    simp
  rw [hz]
  show max y 0 + Ideal.log (1 + Ideal.exp (-(max (y - 0) (-(y - 0))))) = _
  rw [sub_zero]

theorem value7 : val_main_v28 (F := Ideal) x0 x1 x2 x3 x4 = R7 x0 x1 x2 x3 x4 := by
  funext i
  unfold R7
  rw [← neg_softplus, ← pre_ref x0 x1 x2 x3 x4 i]
  have h : val_main_call0_v1 (F := Ideal) x0 x1 x2 x3 x4 i
      = max (-val_main_v25 (F := Ideal) x0 x1 x2 x3 x4 i) 0
        + Ideal.log (1 + Ideal.exp (-max (-val_main_v25 (F := Ideal) x0 x1 x2 x3 x4 i) (- -val_main_v25 (F := Ideal) x0 x1 x2 x3 x4 i))) := by
    rw [← host_softplus]
    simp only [val_main_call0_v1_apply, val_main_call0_call0_v4_apply, val_main_call0_call0_v6_apply, val_main_call0_call0_v11_apply,
      val_main_call0_call0_v1_apply, val_main_call0_call0_v10_apply, val_main_call0_call0_v9_apply, val_main_call0_call0_v8_apply,
      val_main_call0_call0_v7_apply, val_main_call0_call0_v3_apply, val_main_call0_call0_v0_apply, val_main_call0_call0_v2_apply,
      val_main_call0_call0_v5_apply, val_main_call0_call0_cst_apply, val_main_call0_v0_apply]
    rw [show FloatOps.ofBits (F := Ideal) .f32 0x00000000#32 = (0 : EReal) from Ideal.ofBits_zero_f32]
    rfl
  rw [val_main_v28_apply, val_main_v26_apply, val_main_v27_apply, val_main_cst_2_apply, h]
  show Ideal.div (-_) (Ideal.ofBits .f32 0x41800000#32) = _
  rw [sixteen_word, Ideal.div_coe (by norm_num)]

end Cert.Reference2Ideal.Values

end
-- ==== Proof.Out.Spec.lean ====
/-
  The output projection's two results as plain functions of its arguments.
-/
module

public import Idealize.ShloMosaic.Lib.Pointwise

@[expose] public section

noncomputable section

namespace Cert.Outp

open Idealize.ShloMosaic

variable (s : (⟨3, ![8, 512, 8320]⟩ : Shape).Idx → EReal) (o : (⟨3, ![8, 8320, 512]⟩ : Shape).Idx → EReal)
  (h : (⟨3, ![8, 8320, 1024]⟩ : Shape).Idx → EReal) (w : (⟨2, ![1024, 1024]⟩ : Shape).Idx → EReal) (g : (⟨1, ![1024]⟩ : Shape).Idx → EReal)

/-- The hidden state plus both heads' parts times their rows of the weights. -/
def h2 (n : Fin 8) (l : Fin 8320) (j : Fin 1024) : EReal :=
  h (ix3 n l j) + ((∑ r : Fin 512, s (ix3 n r l) * w (ix2 ⟨r.val, by omega⟩ j))
    + ∑ r : Fin 512, o (ix3 n l r) * w (ix2 ⟨512 + r.val, by omega⟩ j))

/-- That row over its root mean square, times the gain. -/
def hn2 (n : Fin 8) (l : Fin 8320) (j : Fin 1024) : EReal :=
  h2 s o h w n l j * Ideal.rsqrt (Ideal.div (∑ e : Fin 1024, h2 s o h w n l e * h2 s o h w n l e) (Ideal.ofBits FTy.f32 0x44800000#32)
    + Ideal.ofBits FTy.f32 0x358637BD#32) * g (ix1 j)

/-- The two results. -/
def T0 : (⟨3, ![8, 8320, 1024]⟩ : Shape).Idx → EReal := fun i => h2 s o h w (i 0) (i 1) (i 2)
def T1 : (⟨3, ![8, 8320, 1024]⟩ : Shape).Idx → EReal := fun i => hn2 s o h w g (i 0) (i 1) (i 2)

end Cert.Outp

end
-- ==== Proof.KI3.Block.lean ====
/-
  The output projection's body read element by element, what its blocks hold, and its two arrays after the run.
-/
module

public import proofs.«01_k».proof.Proof.Gen.Kernel3Ideal.Value
public import proofs.«01_k».proof.Proof.Out.Spec
public import Idealize.ShloMosaic.Lib.Pipeline.ValueKit
public import Idealize.ShloMosaic.Lib.KernelVsHost

@[expose] public section

set_option maxRecDepth 16384

noncomputable section

namespace Cert.Kernel3Ideal.Block

open Cert.Kernel3Ideal Cert.Kernel3Ideal.Gen Cert.Outp
open Idealize.ShloMosaic Idealize.ShloMosaic.TcCoe

/-! ## The body -/

section
variable (s : Vec Ideal S1x512x640 .f32) (w : Vec Ideal S512x1024 .bf16) (o : Vec Ideal S1x640x512 .bf16) (w' : Vec Ideal S512x1024 .bf16)
  (h : Vec Ideal S1x640x1024 .f32) (g : Vec Ideal S1x1024 .f32)

theorem sum_apply (l : Fin 640) (j : Fin 1024) : k0_pay2 s w o w' h (ix2 l j)
    = h (ix3 0 l j) + ((∑ r : Fin 512, s (ix3 0 r l) * w (ix2 r j)) + ∑ r : Fin 512, o (ix3 0 l r) * w' (ix2 r j)) := by
  pointwise [k0_pay2, dot_S640x512_S512x1024_S640x1024_1_0_0_1_n_n]

theorem norm_apply (l : Fin 640) (j : Fin 1024) : k0_pay4 s w o w' h g (ix2 l j)
    = k0_pay2 s w o w' h (ix2 l j) * Ideal.rsqrt (Ideal.div (∑ e : Fin 1024, k0_pay2 s w o w' h (ix2 l e) * k0_pay2 s w o w' h (ix2 l e)) (Ideal.ofBits FTy.f32 0x44800000#32)
      + Ideal.ofBits FTy.f32 0x358637BD#32) * g (ix2 0 j) := by
  pointwise [k0_pay4]

theorem out_apply (l : Fin 640) (j : Fin 1024) : k0_pay3 s w o w' h (ix3 0 l j) = k0_pay2 s w o w' h (ix2 l j) := by
  pointwise [k0_pay3]

theorem lay_apply (v : FVec Ideal S640x1024 .f32) (l : Fin 640) (j : Fin 1024) : k0_pay1 v (ix3 0 l j) = v (ix2 l j) := by
  pointwise [k0_pay1]
end

/-! ## The blocks -/

theorem idx0 : ∀ t : Fin grid0.N, win0_0.index t = ![(grid0.coords t 0).val, 0, (grid0.coords t 1).val] := by decide +kernel
theorem idx1 : ∀ t : Fin grid0.N, win0_1.index t = ![(grid0.coords t 0).val, (grid0.coords t 1).val, 0] := by decide +kernel
theorem idx2 : ∀ t : Fin grid0.N, win0_2.index t = ![(grid0.coords t 0).val, (grid0.coords t 1).val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![(grid0.coords t 0).val, (grid0.coords t 1).val, 0] := by decide +kernel
theorem idx6 : ∀ t : Fin grid0.N, win0_6.index t = ![(grid0.coords t 0).val, (grid0.coords t 1).val, 0] := by decide +kernel

variable (m : (ℓ : Loc nD τ sig) → Buf (Elt Ideal) ℓ) (c : Dev nD)

/-- The five arguments. -/
abbrev argS : (⟨3, ![8, 512, 8320]⟩ : Shape).Idx → EReal := m ((c : Thread nD τ).loc main_arg0)
abbrev argO : (⟨3, ![8, 8320, 512]⟩ : Shape).Idx → EReal := m ((c : Thread nD τ).loc main_arg1)
abbrev argH : (⟨3, ![8, 8320, 1024]⟩ : Shape).Idx → EReal := m ((c : Thread nD τ).loc main_arg2)
abbrev argW : (⟨2, ![1024, 1024]⟩ : Shape).Idx → EReal := m ((c : Thread nD τ).loc main_arg3)
abbrev argG : (⟨1, ![1024]⟩ : Shape).Idx → EReal := m ((c : Thread nD τ).loc main_arg4)

variable (t : Fin cfg0.N)

/-- The point's batch and block of rows. -/
abbrev bt : ℕ := (grid0.coords t 0).val
abbrev rb : ℕ := (grid0.coords t 1).val

theorem bt_lt : bt t < 8 := (grid0.coords t 0).isLt
theorem rb_lt : rb t < 13 := (grid0.coords t 1).isLt

/-- The row of the array a row of the block is. -/
abbrev row (l : Fin 640) : Fin 8320 := ⟨640 * rb t + l.val, by have := rb_lt t; omega⟩
abbrev bat : Fin 8 := ⟨bt t, bt_lt t⟩

theorem blkS (r : Fin 512) (l : Fin 640) : iblk m c 0 t (ix3 0 r l) = argS m c (ix3 (bat t) r (row t l)) := by
  have h0 := bt_lt t; have h1 := rb_lt t
  blk_simp [iblk]
  rw [V_main_arg0]
  blk_ext! [idx0 t]
  all_goals (simp only [bt, rb]; omega)

theorem blkO (l : Fin 640) (r : Fin 512) : iblk m c 1 t (ix3 0 l r) = argO m c (ix3 (bat t) (row t l) r) := by
  have h0 := bt_lt t; have h1 := rb_lt t
  blk_simp [iblk]
  rw [V_main_arg1]
  blk_ext! [idx1 t]
  all_goals (simp only [bt, rb]; omega)

theorem blkH (l : Fin 640) (j : Fin 1024) : iblk m c 2 t (ix3 0 l j) = argH m c (ix3 (bat t) (row t l) j) := by
  have h0 := bt_lt t; have h1 := rb_lt t
  blk_simp [iblk]
  rw [V_main_arg2]
  blk_ext! [idx2 t]
  all_goals (simp only [bt, rb]; omega)

theorem blkW (r j : Fin 1024) : iblk m c 3 t (ix2 r j) = argW m c (ix2 r j) := by
  blk_simp [iblk]
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp
  pointwise
  blk_ext! [idx3 t]

theorem blkG (j : Fin 1024) : iblk m c 4 t (ix2 0 j) = argG m c (ix1 j) := by
  blk_simp [iblk]
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp
  pointwise
  blk_ext! [idx4 t]

/-- The two halves of the weights' rows. -/
abbrev top : Vec Ideal S512x1024 .bf16 := View.ld (iblk m c 3 t) r0_1
abbrev low : Vec Ideal S512x1024 .bf16 := View.ld (iblk m c 3 t) r0_3

theorem top_apply (r : Fin 512) (j : Fin 1024) : top m c t (ix2 r j) = argW m c (ix2 ⟨r.val, by omega⟩ j) := by
  rw [← blkW m c t]
  exact View.ld_unit_apply_of _ _ _ _ _ _ fun x => match x with | 0 => (Nat.zero_add _).symm | 1 => (Nat.zero_add _).symm

theorem low_apply (r : Fin 512) (j : Fin 1024) : low m c t (ix2 r j) = argW m c (ix2 ⟨512 + r.val, by omega⟩ j) := by
  rw [← blkW m c t]
  exact View.ld_unit_apply_of _ _ _ _ _ _ fun x => match x with | 0 => rfl | 1 => (Nat.zero_add _).symm

theorem sum_point (l : Fin 640) (j : Fin 1024) :
    k0_pay2 (iblk m c 0 t) (top m c t) (iblk m c 1 t) (low m c t) (iblk m c 2 t) (ix2 l j)
      = h2 (argS m c) (argO m c) (argH m c) (argW m c) (bat t) (row t l) j := by
  rw [sum_apply, blkH]
  simp only [blkS, blkO, top_apply, low_apply]
  rfl

theorem norm_point (l : Fin 640) (j : Fin 1024) :
    k0_pay4 (iblk m c 0 t) (top m c t) (iblk m c 1 t) (low m c t) (iblk m c 2 t) (iblk m c 4 t) (ix2 l j)
      = hn2 (argS m c) (argO m c) (argH m c) (argW m c) (argG m c) (bat t) (row t l) j := by
  rw [norm_apply, blkG]
  simp only [sum_point]
  rfl

/-! ## The arrays -/

theorem emb5 (l : Fin 640) (j : Fin 1024) : (win0_5.blk t).view.emb (ix3 0 l j : S1x640x1024.Idx) = ix3 (bat t) (row t l) j := by
  ext x
  fin_cases x <;> blk_simp [idx5 t]
  · rfl
  · show rb t * 640 + l.val = 640 * rb t + l.val
    omega
  · rfl

theorem emb6 (l : Fin 640) (j : Fin 1024) : (win0_6.blk t).view.emb (ix3 0 l j : S1x640x1024.Idx) = ix3 (bat t) (row t l) j := by
  ext x
  fin_cases x <;> blk_simp [idx6 t]
  · rfl
  · show rb t * 640 + l.val = 640 * rb t + l.val
    omega
  · rfl

theorem at0 (y : S1x640x1024.Idx) : k0_pay3 (iblk m c 0 t) (top m c t) (iblk m c 1 t) (low m c t) (iblk m c 2 t) y
    = T0 (argS m c) (argO m c) (argH m c) (argW m c) ((win0_5.blk t).view.emb y) := by
  obtain ⟨a, l, j, rfl⟩ : ∃ (a : Fin 1) (l : Fin 640) (j : Fin 1024), y = ix3 a l j := ⟨_, _, _, eq_ix3 y⟩
  obtain rfl : a = 0 := Subsingleton.elim _ _
  rw [emb5 t l j, out_apply]
  exact sum_point m c t l j

theorem at1 (y : S1x640x1024.Idx) :
    k0_pay1 (k0_pay4 (iblk m c 0 t) (top m c t) (iblk m c 1 t) (low m c t) (iblk m c 2 t) (iblk m c 4 t)) y
      = T1 (argS m c) (argO m c) (argH m c) (argW m c) (argG m c) ((win0_6.blk t).view.emb y) := by
  obtain ⟨a, l, j, rfl⟩ : ∃ (a : Fin 1) (l : Fin 640) (j : Fin 1024), y = ix3 a l j := ⟨_, _, _, eq_ix3 y⟩
  obtain rfl : a = 0 := Subsingleton.elim _ _
  rw [emb6 t l j, lay_apply]
  exact norm_point m c t l j

theorem final0 : (dats m 0 c).arrAt 5 cfg0.N = T0 (argS m c) (argO m c) (argH m c) (argW m c) := by
  refine (dats m 0 c).arrAt_eq_of_covers 5 _ (by decide +kernel) fun t hf y => ?_
  blk_simp
  rw [after0_5]
  unfold out0_5
  frame_out
  exact at0 m c t y

theorem final1 : (dats m 0 c).arrAt 6 cfg0.N = T1 (argS m c) (argO m c) (argH m c) (argW m c) (argG m c) := by
  refine (dats m 0 c).arrAt_eq_of_covers 6 _ (by decide +kernel) fun t hf y => ?_
  blk_simp
  rw [after0_6]
  unfold out0_6
  frame_out
  exact at1 m c t y

end Cert.Kernel3Ideal.Block

end
-- ==== Proof.RI3.Value.lean ====
/-
  The values of the output projection's reference.
-/
module

public import proofs.«01_k».proof.Proof.Out.Spec
public import proofs.«01_k».proof.Proof.Gen.Reference3Ideal.Read

@[expose] public section

set_option maxRecDepth 16384

noncomputable section

namespace Cert.Reference3Ideal.Values

open Cert.Reference3Ideal Cert.Reference3Ideal.Gen Cert.Reference3Ideal.Read Cert.Outp
open Idealize.ShloMosaic Idealize.ShloMosaic.TcCoe

variable (x0 : (⟨S8x512x8320, .f32⟩ : BufTy).Contents (Elt Ideal)) (x1 : (⟨S8x8320x512, .bf16⟩ : BufTy).Contents (Elt Ideal))
  (x2 : (⟨S8x8320x1024, .f32⟩ : BufTy).Contents (Elt Ideal)) (x3 : (⟨S1024x1024, .f32⟩ : BufTy).Contents (Elt Ideal))
  (x4 : (⟨S1024, .f32⟩ : BufTy).Contents (Elt Ideal))

theorem left (n : Fin 8) (l : Fin 8320) (r : Fin 512) : val_main_v2 (F := Ideal) x0 x1 (ix3 n l (⟨r.val, by omega⟩ : Fin 1024)) = x0 (ix3 n r l) := by
  unfold val_main_v2
  pointwise
  rw [val_main_v0_apply]
  refine congrArg x0 ?_
  funext a; fin_cases a <;> rfl

theorem right (n : Fin 8) (l : Fin 8320) (r : Fin 512) : val_main_v2 (F := Ideal) x0 x1 (ix3 n l (⟨512 + r.val, by omega⟩ : Fin 1024)) = x1 (ix3 n l r) := by
  unfold val_main_v2
  pointwise
  rw [val_main_v1_apply]
  rfl

theorem h2_ref (n : Fin 8) (l : Fin 8320) (j : Fin 1024) : val_main_v4 (F := Ideal) x0 x1 x2 x3 (ix3 n l j) = h2 x0 x1 x2 x3 n l j := by
  rw [val_main_v4_apply, val_main_v3_apply]
  unfold h2
  have e1 : ∀ k : Fin 1024, lidx_main_v3 (ix3 n l j) k = ix3 n l k := fun k => by funext a; fin_cases a <;> rfl
  have e2 : ∀ k : Fin 1024, ridx_main_v3 (ix3 n l j) k = ix2 k j := fun k => by funext a; fin_cases a <;> rfl
  simp only [e1, e2]
  refine congrArg (x2 (ix3 n l j) + ·) ?_
  rw [show (∑ k : Fin 1024, val_main_v2 (F := Ideal) x0 x1 (ix3 n l k) * x3 (ix2 k j))
    = ∑ k : Fin (512 + 512), val_main_v2 (F := Ideal) x0 x1 (ix3 n l k) * x3 (ix2 k j) from rfl, Fin.sum_univ_add]
  refine congrArg₂ (· + ·) (Finset.sum_congr rfl fun r _ => ?_) (Finset.sum_congr rfl fun r _ => ?_)
  · exact congrArg (· * _) (left x0 x1 n l r)
  · exact congrArg (· * _) (right x0 x1 n l r)

theorem value0 : val_main_v4 (F := Ideal) x0 x1 x2 x3 = T0 x0 x1 x2 x3 := by
  funext i
  obtain ⟨n, l, j, rfl⟩ : ∃ (n : Fin 8) (l : Fin 8320) (j : Fin 1024), i = ix3 n l j := ⟨_, _, _, eq_ix3 i⟩
  exact h2_ref x0 x1 x2 x3 n l j

theorem hn2_ref (n : Fin 8) (l : Fin 8320) (j : Fin 1024) : val_main_v17 (F := Ideal) x0 x1 x2 x3 x4 (ix3 n l j) = hn2 x0 x1 x2 x3 x4 n l j := by
  rw [val_main_v17_apply, val_main_v14_apply, val_main_v13_apply, val_main_v12_apply, val_main_v11_apply, val_main_v9_apply, val_main_v7_apply,
    val_main_v6_apply, val_main_v8_apply, val_main_v10_apply, val_main_v16_apply, val_main_v15_apply, val_main_cst_apply,
    val_main_cst_0_apply, val_main_cst_1_apply]
  rw [show FloatOps.ofBits (F := Ideal) .f32 0x00000000#32 = (0 : EReal) from Ideal.ofBits_zero_f32, zero_add]
  simp only [val_main_v5_apply]
  unfold hn2
  have e1 : ∀ k : Fin 1024, idx_main_v6 (idx_main_v7 (idx_main_v13 (ix3 n l j))) k = ix3 n l k := fun k => by
    funext a; fin_cases a <;> rfl
  have e2 : idx_main_v15 (idx_main_v16 (ix3 n l j)) = ix1 j := by
    funext a; fin_cases a; rfl
  rw [e2]
  simp only [e1, h2_ref]
  rfl

theorem value1 : val_main_v17 (F := Ideal) x0 x1 x2 x3 x4 = T1 x0 x1 x2 x3 x4 := by
  funext i
  obtain ⟨n, l, j, rfl⟩ : ∃ (n : Fin 8) (l : Fin 8320) (j : Fin 1024), i = ix3 n l j := ⟨_, _, _, eq_ix3 i⟩
  exact hn2_ref x0 x1 x2 x3 x4 n l j

end Cert.Reference3Ideal.Values

end
-- ==== Proof.lean ====
/-
  The proof of the certificate's claims (Defs.lean). The kernel's two printed programs are run in `Proof/K/` and
  `Proof/KI/`: one trip of the loop (`Trip`), the loop's label (`Spec`), the body at a grid point (`Body`) and the
  whole program (`Run`). What the kernel stores is stated in `Proof/KI/Result` and proved in `Proof/KI/Block`; the
  reference's result is proved to be the same array in `Proof/RI/`; `Proof/Finite` reads the precondition. The input
  projection's eight results are stated in `Proof/In/Spec`, and proved to be the kernel's in `Proof/KI2/` and the
  reference's in `Proof/RI2/`; the output projection's two results likewise, in `Proof/Out/Spec`, `Proof/KI3/` and
  `Proof/RI3/`.
-/
module

public import proofs.«01_k».proof.Defs
public import proofs.«01_k».proof.Proof.K.Run
public import proofs.«01_k».proof.Proof.KI.Run
public import proofs.«01_k».proof.Proof.KI.Block
public import proofs.«01_k».proof.Proof.RI.Value
public import proofs.«01_k».proof.Proof.Finite
public import proofs.«01_k».proof.Proof.KI2.Final
public import proofs.«01_k».proof.Proof.RI2.Value
public import proofs.«01_k».proof.Proof.KI3.Block
public import proofs.«01_k».proof.Proof.RI3.Value
public import proofs.«01_k».proof.Proof.Gen.Kernel
public import proofs.«01_k».proof.Proof.Gen.KernelIdeal
public import proofs.«01_k».proof.Proof.Gen.Kernel2Ideal.Value
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same array wherever queries and keys are real numbers. -/
theorem value : algebraic_KernelIdeal_ReferenceIdeal_pre_finite_queries_and_keys (hKernelIdeal := Cert.KernelIdeal.Gen.facts)
    (hReferenceIdeal := Cert.ReferenceIdeal.Gen.facts) (hPre_finite_queries_and_keys := Cert.Finite.facts) := by
  intro m ρ m' ρ' hpre hargs
  have hreal := fun c => Cert.Finite.reals (hF := Cert.Finite.facts) _ _ _ _ (hpre c)
  refine ⟨fun c => Cert.KernelIdeal.Block.result m c, ?_, ?_⟩
  · refine (θ_run Cert.KernelIdeal.defs _ _).mono (fun r h c => ⟨(h c).1.trans ?_, (h c).2⟩) (Cert.KernelIdeal.Run.run_blocks (F := Ideal) m ρ)
    exact Cert.KernelIdeal.Block.final m c (hreal c).1 (hreal c).2
  · refine (θ_run Cert.ReferenceIdeal.defs _ _).mono (fun r h c => ⟨(h c).1.trans ?_, (h c).2⟩) (Cert.ReferenceIdeal.Value.run (F := Ideal) m' ρ')
    obtain ⟨a0, a1, a2, a3⟩ := hargs c
    rw [Cert.ReferenceIdeal.Read.val_main_v42_eq, a0, a1, a2, a3]
    exact Cert.ReferenceIdeal.Scores.final _ _ _ _ (hreal c).1 (hreal c).2

theorem frame_reference2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r =>
      (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run Cert.Reference2Ideal.defs _ _).mono (fun r h => ⟨fun c => (h c).2.2.2.2.2.2.2.2, sem_eq_zero_of_no_sems (by decide) r.2⟩)
    (Cert.Reference2Ideal.Value.run (F := Ideal) m ρ)

open Cert.Kernel2Ideal.Block Cert.Proj Cert.Reference2Ideal.Values Cert.Reference2Ideal.Read in
/-- The input projection's eight arrays are the reference's. -/
theorem value2 : algebraic_Kernel2Ideal_Reference2Ideal (hKernel2Ideal := Cert.Kernel2Ideal.Gen.facts)
    (hReference2Ideal := Cert.Reference2Ideal.Gen.facts) := by
  intro m ρ m' ρ' hpre hargs
  refine ⟨fun c => R0 (argX m c) (argG m c) (argW m c), fun c => R1 (argX m c) (argG m c) (argW m c),
    fun c => R2 (argX m c) (argG m c) (argW m c), fun c => R3 (argX m c) (argG m c) (argW m c),
    fun c => R4 (argX m c) (argG m c) (argW m c), fun c => R5 (argX m c) (argG m c) (argW m c),
    fun c => R6 (argX m c) (argG m c) (argW m c), fun c => R7 (argX m c) (argG m c) (argW m c) (argU m c) (argB m c), ?_, ?_⟩
  · refine (θ_run Cert.Kernel2Ideal.defs _ _).mono (fun r h c => ?_) (Cert.Kernel2Ideal.Value.run_blocks (F := Ideal) m ρ)
    obtain ⟨h0, h1, h2, h3, h4, h5, h6, h7, hrest⟩ := h c
    exact ⟨h0.trans (final0 m c), h1.trans (final1 m c), h2.trans (final2 m c), h3.trans (final3 m c), h4.trans (final4 m c),
      h5.trans (final5 m c), h6.trans (final6 m c), h7.trans (final7 m c), hrest⟩
  · refine (θ_run Cert.Reference2Ideal.defs _ _).mono (fun r h c => ?_) (Cert.Reference2Ideal.Value.run (F := Ideal) m' ρ')
    obtain ⟨h0, h1, h2, h3, h4, h5, h6, h7, hrest⟩ := h c
    obtain ⟨a0, a1, a2, a3, a4⟩ := hargs c
    refine ⟨h0.trans ?_, h1.trans ?_, h2.trans ?_, h3.trans ?_, h4.trans ?_, h5.trans ?_, h6.trans ?_, h7.trans ?_, hrest⟩
    · rw [val_main_v32_eq, a0, a1, a2]
      exact value0 _ _ _
    · rw [val_main_v33_eq, a0, a1, a2]
      exact value1 _ _ _
    · rw [val_main_v35_eq, a0, a1, a2]
      exact Cert.Reference2Ideal.Values.value2 _ _ _
    · rw [val_main_v37_eq, a0, a1, a2]
      exact value3 _ _ _
    · rw [val_main_v18_eq, a0, a1, a2]
      exact value4 _ _ _
    · rw [val_main_v38_eq, a0, a1, a2]
      exact value5 _ _ _
    · rw [val_main_v20_eq, a0, a1, a2]
      exact value6 _ _ _
    · rw [val_main_v28_eq, a0, a1, a2, a3, a4]
      exact value7 _ _ _ _ _

theorem frame_reference3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r =>
      (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run Cert.Reference3Ideal.defs _ _).mono (fun r h => ⟨fun c => (h c).2.2, sem_eq_zero_of_no_sems (by decide) r.2⟩)
    (Cert.Reference3Ideal.Value.run (F := Ideal) m ρ)

open Cert.Kernel3Ideal.Block Cert.Outp Cert.Reference3Ideal.Values Cert.Reference3Ideal.Read in
/-- The output projection's two arrays are the reference's. -/
theorem value3 : algebraic_Kernel3Ideal_Reference3Ideal (hKernel3Ideal := Cert.Kernel3Ideal.Gen.facts)
    (hReference3Ideal := Cert.Reference3Ideal.Gen.facts) := by
  intro m ρ m' ρ' hpre hargs
  refine ⟨fun c => T0 (argS m c) (argO m c) (argH m c) (argW m c), fun c => T1 (argS m c) (argO m c) (argH m c) (argW m c) (argG m c), ?_, ?_⟩
  · refine (θ_run Cert.Kernel3Ideal.defs _ _).mono (fun r h c => ?_) (Cert.Kernel3Ideal.Value.run_blocks (F := Ideal) m ρ)
    obtain ⟨h0, h1, hrest⟩ := h c
    exact ⟨h0.trans (final0 m c), h1.trans (final1 m c), hrest⟩
  · refine (θ_run Cert.Reference3Ideal.defs _ _).mono (fun r h c => ?_) (Cert.Reference3Ideal.Value.run (F := Ideal) m' ρ')
    obtain ⟨h0, h1, hrest⟩ := h c
    obtain ⟨a0, a1, a2, a3, a4⟩ := hargs c
    refine ⟨h0.trans ?_, h1.trans ?_, hrest⟩
    · rw [val_main_v4_eq, a0, a1, a2, a3]
      exact value0 _ _ _ _
    · rw [val_main_v17_eq, a0, a1, a2, a3, a4]
      exact value1 _ _ _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Finite.facts,
  fun m ρ _ => Cert.Kernel.Run.frame m ρ,
  fun m ρ _ => Cert.KernelIdeal.Run.frame m ρ,
  fun m ρ _ => Cert.KernelIdeal.Run.frame m ρ,
  fun m ρ _ => frame_reference m ρ,
  fun m ρ _ => frame_reference m ρ,
  fun m ρ _ => Cert.Kernel2.Gen.frame m ρ,
  fun m ρ _ => Cert.Kernel2Ideal.Gen.frame m ρ,
  fun m ρ _ => frame_reference2 m ρ,
  fun m ρ _ => Cert.Kernel3.Gen.frame m ρ,
  fun m ρ _ => Cert.Kernel3Ideal.Gen.frame m ρ,
  fun m ρ _ => frame_reference3 m ρ,
  IdealRules.named_const.statement Cert.KernelIdeal.κ "exit" .f32 0xC2D20000#32 ⊥ rfl,
  value,
  trivial,
  value2,
  trivial,
  value3⟩

end Cert.Proof

end
